-- ==== Defs.lean ====
def Pre_Kernel [hPre_indices_in_range : Cert.Pre_indices_in_range.Facts] (m : (ℓ : Loc Cert.Kernel.nD Cert.Kernel.τ Cert.Kernel.sig) → Buf (Elt Bits) ℓ) : Prop :=
  ∀ c : Dev Cert.Kernel.nD,
    (Cert.Pre_indices_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_indices_in_range : Cert.Pre_indices_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_indices_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indices_in_range [hPre_indices_in_range : Cert.Pre_indices_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_indices_in_range : Cert.Pre_indices_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_indices_in_range [hReferenceIdeal : Cert.ReferenceIdeal.Facts] [hPre_indices_in_range : Cert.Pre_indices_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indices_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_indices_in_range : Cert.Pre_indices_in_range.Facts),
    quiescent_Kernel (hKernel := hKernel) (hPre_indices_in_range := hPre_indices_in_range)
    ∧ quiescent_KernelIdeal (hKernelIdeal := hKernelIdeal) (hPre_indices_in_range := hPre_indices_in_range)
    ∧ quiescent_ReferenceIdeal (hReferenceIdeal := hReferenceIdeal)
    ∧ quiescent_ReferenceIdeal_pre_indices_in_range (hReferenceIdeal := hReferenceIdeal) (hPre_indices_in_range := hPre_indices_in_range)
    ∧ preserves_Kernel_KernelIdeal
    ∧ algebraic_KernelIdeal_ReferenceIdeal (hKernelIdeal := hKernelIdeal) (hReferenceIdeal := hReferenceIdeal) (hPre_indices_in_range := hPre_indices_in_range)
-- ==== Pre_indices_in_range.lean ====
abbrev S32x2048 : Shape := ⟨2, ![32, 2048]⟩
abbrev S1000x4096 : Shape := ⟨2, ![1000, 4096]⟩
abbrev S4096x8192 : Shape := ⟨2, ![4096, 8192]⟩
abbrev S8192 : Shape := ⟨1, ![8192]⟩
abbrev S8192x2 : Shape := ⟨2, ![8192, 2]⟩
abbrev S2 : Shape := ⟨1, ![2]⟩
abbrev S_ : Shape := ⟨0, ![]⟩

class Facts : Prop where
  bcast_S_S32x2048 : S_.BroadcastsInDim S32x2048 (![] : Fin 0 → Fin S32x2048.rank)
  reducesTo_S32x2048_S_d0_1 : S32x2048.ReducesTo [0, 1] S_
  h_S_ : 0 < S_.numel

variable [Facts]

def fn {F : FTy → Type} [FloatOps F] (main_arg0 : IVec S32x2048 32) (main_arg1 : FVec F S1000x4096 .f32) (main_arg2 : FVec F S4096x8192 .f32) (main_arg3 : FVec F S8192 .f32) (main_arg4 : FVec F S8192x2 .f32) (main_arg5 : FVec F S2 .f32) : IVec S_ 1 :=
  let main_c : IVec S_ 32 := constantI S_ 32 0#32
  let main_v0 : IVec S32x2048 32 := broadcastInDim S32x2048 ![] bcast_S_S32x2048 main_c
  let main_v1 : IVec S32x2048 1 := cmpi .sge main_arg0 main_v0
  let main_c_0 : IVec S_ 32 := constantI S_ 32 1000#32
  let main_v2 : IVec S32x2048 32 := broadcastInDim S32x2048 ![] bcast_S_S32x2048 main_c_0
  let main_v3 : IVec S32x2048 1 := cmpi .slt main_arg0 main_v2
  let main_v4 : IVec S32x2048 1 := andi main_v1 main_v3
  let main_c_1 : IVec S_ 1 := constantI S_ 1 1#1
  let main_v5 : IVec S_ 1 := (fun x v => Host.reduce IntOp.andi x v reducesTo_S32x2048_S_d0_1 h_S_) main_v4 main_c_1
  main_v5
-- ==== Kernel.lean ====
abbrev S32x2048 : Shape := ⟨2, ![32, 2048]⟩
abbrev S1000x4096 : Shape := ⟨2, ![1000, 4096]⟩
abbrev S4096x8192 : Shape := ⟨2, ![4096, 8192]⟩
abbrev S8192 : Shape := ⟨1, ![8192]⟩
abbrev S8192x2 : Shape := ⟨2, ![8192, 2]⟩
abbrev S2 : Shape := ⟨1, ![2]⟩
abbrev S32x1024 : Shape := ⟨2, ![32, 1024]⟩
abbrev S2048 : Shape := ⟨1, ![2048]⟩
abbrev S16384 : Shape := ⟨1, ![16384]⟩
abbrev S1024 : Shape := ⟨1, ![1024]⟩
abbrev S_ : Shape := ⟨0, ![]⟩
abbrev S1x2048 : Shape := ⟨2, ![1, 2048]⟩
abbrev S16 : Shape := ⟨1, ![16]⟩
abbrev S1x1024 : Shape := ⟨2, ![1, 1024]⟩
abbrev S1x8192 : Shape := ⟨2, ![1, 8192]⟩
abbrev S1x2 : Shape := ⟨2, ![1, 2]⟩
abbrev S32x2 : Shape := ⟨2, ![32, 2]⟩
abbrev S4096x512 : Shape := ⟨2, ![4096, 512]⟩
abbrev S1x512 : Shape := ⟨2, ![1, 512]⟩
abbrev S512x2 : Shape := ⟨2, ![512, 2]⟩
abbrev S32x4096 : Shape := ⟨2, ![32, 4096]⟩
abbrev S32x1000 : Shape := ⟨2, ![32, 1000]⟩
abbrev S32x512 : Shape := ⟨2, ![32, 512]⟩

abbrev nBuf : Table → Nat
  | .hbm => 10
  | .local .tc .vmem => 12
  | .local .scVector .vmem => 3
  | _ => 0

abbrev bufTy : (tb : Table) → Fin (nBuf tb) → BufTy
  | .hbm, ⟨0, _⟩ => ⟨S32x2048, .i32⟩
  | .hbm, ⟨1, _⟩ => ⟨S1000x4096, .f32⟩
  | .hbm, ⟨2, _⟩ => ⟨S4096x8192, .f32⟩
  | .hbm, ⟨3, _⟩ => ⟨S8192, .f32⟩
  | .hbm, ⟨4, _⟩ => ⟨S8192x2, .f32⟩
  | .hbm, ⟨5, _⟩ => ⟨S2, .f32⟩
  | .hbm, ⟨6, _⟩ => ⟨S32x1024, .f32⟩
  | .hbm, ⟨7, _⟩ => ⟨S1x8192, .f32⟩
  | .hbm, ⟨8, _⟩ => ⟨S1x2, .f32⟩
  | .hbm, ⟨9, _⟩ => ⟨S32x2, .f32⟩
  | .local .tc .vmem, ⟨0, _⟩ => ⟨S32x1024, .f32⟩
  | .local .tc .vmem, ⟨1, _⟩ => ⟨S1000x4096, .f32⟩
  | .local .tc .vmem, ⟨2, _⟩ => ⟨S4096x512, .f32⟩
  | .local .tc .vmem, ⟨3, _⟩ => ⟨S4096x512, .f32⟩
  | .local .tc .vmem, ⟨4, _⟩ => ⟨S1x512, .f32⟩
  | .local .tc .vmem, ⟨5, _⟩ => ⟨S1x512, .f32⟩
  | .local .tc .vmem, ⟨6, _⟩ => ⟨S512x2, .f32⟩
  | .local .tc .vmem, ⟨7, _⟩ => ⟨S512x2, .f32⟩
  | .local .tc .vmem, ⟨8, _⟩ => ⟨S1x2, .f32⟩
  | .local .tc .vmem, ⟨9, _⟩ => ⟨S32x2, .f32⟩
  | .local .tc .vmem, ⟨10, _⟩ => ⟨S32x4096, .f32⟩
  | .local .tc .vmem, ⟨11, _⟩ => ⟨S32x2, .f32⟩
  | .local .scVector .vmem, ⟨0, _⟩ => ⟨S2048, .i32⟩
  | .local .scVector .vmem, ⟨1, _⟩ => ⟨S16384, .f32⟩
  | .local .scVector .vmem, ⟨2, _⟩ => ⟨S1024, .f32⟩
  | _, _ => ⟨S32x2048, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_arg0_scv : Ref sig .scVector := ⟨.hbm, 0, rfl⟩
abbrev main_v0_scv : Ref sig .scVector := ⟨.hbm, 6, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg2_1 : Ref sig .tc := ⟨.vmem, 3, rfl⟩
abbrev cc1_stg3_0 : Ref sig .tc := ⟨.vmem, 4, rfl⟩
abbrev cc1_stg3_1 : Ref sig .tc := ⟨.vmem, 5, rfl⟩
abbrev cc1_stg4_0 : Ref sig .tc := ⟨.vmem, 6, rfl⟩
abbrev cc1_stg4_1 : Ref sig .tc := ⟨.vmem, 7, rfl⟩
abbrev cc1_stg5_0 : Ref sig .tc := ⟨.vmem, 8, rfl⟩
abbrev cc1_stg6_0 : Ref sig .tc := ⟨.vmem, 9, rfl⟩
abbrev cc1_scratch0 : Ref sig .tc := ⟨.vmem, 10, rfl⟩
abbrev cc1_scratch1 : Ref sig .tc := ⟨.vmem, 11, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 2
abbrev cc1_sem1_0 : DmaSem sig := 3
abbrev cc1_sem2_0 : DmaSem sig := 4
abbrev cc1_sem2_1 : DmaSem sig := 5
abbrev cc1_sem3_0 : DmaSem sig := 6
abbrev cc1_sem3_1 : DmaSem sig := 7
abbrev cc1_sem4_0 : DmaSem sig := 8
abbrev cc1_sem4_1 : DmaSem sig := 9
abbrev cc1_sem5_0 : DmaSem sig := 10
abbrev cc1_sem6_0 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_7_r0 : BitVec 32 := 0#32
  ![v1.toNat, 0]
@[reducible] def k0_t1_loop : Scf.Loop 32 :=
  let c0_i32_1 : BitVec 32 := 0#32
  let c64_i32 : BitVec 32 := 64#32
  let v7 : BitVec 32 := Scalar.addi c0_i32_1 c64_i32
  let c1_i32 : BitVec 32 := 1#32
  ⟨c0_i32_1, v7, c1_i32⟩
def k0_off2 (k0_t1 : Fin k0_t1_loop.trips) : Fin 1 → Nat :=
  let c0_i32_1 : BitVec 32 := 0#32
  let c1_i32 : BitVec 32 := 1#32
  let arg7 : BitVec 32 := Scf.iv c0_i32_1 c1_i32 k0_t1
  let c16_i32 : BitVec 32 := 16#32
  let v9 : BitVec 32 := Scalar.muli arg7 c16_i32
  let v10 : Index := Scalar.indexCast v9
  ![v10.toNat]
@[reducible] def k0_t2_loop : Scf.Loop 32 :=
  let c0_i32_4 : BitVec 32 := 0#32
  let c128_i32 : BitVec 32 := 128#32
  let v8 : BitVec 32 := Scalar.addi c0_i32_4 c128_i32
  let c1_i32_5 : BitVec 32 := 1#32
  ⟨c0_i32_4, v8, c1_i32_5⟩
def k0_off3 (k0_t2 : Fin k0_t2_loop.trips) : Fin 1 → Nat :=
  let c0_i32_4 : BitVec 32 := 0#32
  let c1_i32_5 : BitVec 32 := 1#32
  let arg7 : BitVec 32 := Scf.iv c0_i32_4 c1_i32_5 k0_t2
  let c16_i32 : BitVec 32 := 16#32
  let v9 : BitVec 32 := Scalar.muli arg7 c16_i32
  let v10 : Index := Scalar.indexCast v9
  ![v10.toNat]

def k0_chk1 (v11 : IVec S16 32) : Prop :=
  (∀ a x, ((![v11] : Fin 1 → IVec S16 32) a x).toNat < S1024.size a)
theorem k0_idx1_inb : ∀ (v11 : IVec S16 32) (k0_hw1 : k0_chk1 v11), ∀ a x, ((![v11] : Fin 1 → IVec S16 32) a x).toNat < S1024.size a := fun v11 k0_hw1 => k0_hw1
def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_7_r1 : BitVec 32 := 0#32
  ![v1.toNat, 0]
abbrev grid1 : Pipeline.Grid := ⟨1, ![16], ![false]⟩

def k1_cond2 (i : grid1.Coords) : BitVec 1 :=
  let arg0 : BitVec 32 := BitVec.ofNat 32 (i 0).val
  let c15_i32 : BitVec 32 := 15#32
  let v23 : BitVec 1 := Scalar.cmpi .eq arg0 c15_i32
  let v24 : BitVec 32 := Scalar.extui v23
  let c0_i32_14 : BitVec 32 := 0#32
  let v25 : BitVec 1 := Scalar.cmpi .ne v24 c0_i32_14
  v25

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S32x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1000x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4096x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x2 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S32x2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32x2048 : Shape := ⟨2, ![32, 2048]⟩
abbrev S1000x4096 : Shape := ⟨2, ![1000, 4096]⟩
abbrev S4096x8192 : Shape := ⟨2, ![4096, 8192]⟩
abbrev S8192 : Shape := ⟨1, ![8192]⟩
abbrev S8192x2 : Shape := ⟨2, ![8192, 2]⟩
abbrev S2 : Shape := ⟨1, ![2]⟩
abbrev S_ : Shape := ⟨0, ![]⟩
abbrev S32x2048x1 : Shape := ⟨3, ![32, 2048, 1]⟩
abbrev S1 : Shape := ⟨1, ![1]⟩
abbrev S1x1x1 : Shape := ⟨3, ![1, 1, 1]⟩
abbrev S32x2048x4096 : Shape := ⟨3, ![32, 2048, 4096]⟩
abbrev S32x4096 : Shape := ⟨2, ![32, 4096]⟩
abbrev S32x8192 : Shape := ⟨2, ![32, 8192]⟩
abbrev S1x8192 : Shape := ⟨2, ![1, 8192]⟩
abbrev S32x2 : Shape := ⟨2, ![32, 2]⟩
abbrev S1x2 : Shape := ⟨2, ![1, 2]⟩

abbrev nBuf : Space → Nat
  | .hbm => 45
  | .vmem => 0
  | .smem => 0
  | _ => 0

abbrev bufTy : (tb : Table) → Fin (tcTables nBuf tb) → BufTy
  | .hbm, ⟨0, _⟩ => ⟨S32x2048, .i32⟩
  | .hbm, ⟨1, _⟩ => ⟨S1000x4096, .f32⟩
  | .hbm, ⟨2, _⟩ => ⟨S4096x8192, .f32⟩
  | .hbm, ⟨3, _⟩ => ⟨S8192, .f32⟩
  | .hbm, ⟨4, _⟩ => ⟨S8192x2, .f32⟩
  | .hbm, ⟨5, _⟩ => ⟨S2, .f32⟩
  | .hbm, ⟨6, _⟩ => ⟨S_, .i32⟩
  | .hbm, ⟨7, _⟩ => ⟨S32x2048, .i32⟩
  | .hbm, ⟨8, _⟩ => ⟨S32x2048, .i1⟩
  | .hbm, ⟨9, _⟩ => ⟨S_, .i32⟩
  | .hbm, ⟨10, _⟩ => ⟨S32x2048, .i32⟩
  | .hbm, ⟨11, _⟩ => ⟨S32x2048, .i32⟩
  | .hbm, ⟨12, _⟩ => ⟨S32x2048, .i32⟩
  | .hbm, ⟨13, _⟩ => ⟨S32x2048x1, .i32⟩
  | .hbm, ⟨14, _⟩ => ⟨S1, .i32⟩
  | .hbm, ⟨15, _⟩ => ⟨S_, .i32⟩
  | .hbm, ⟨16, _⟩ => ⟨S32x2048x1, .i32⟩
  | .hbm, ⟨17, _⟩ => ⟨S32x2048x1, .i1⟩
  | .hbm, ⟨18, _⟩ => ⟨S1x1x1, .i32⟩
  | .hbm, ⟨19, _⟩ => ⟨S32x2048x1, .i32⟩
  | .hbm, ⟨20, _⟩ => ⟨S32x2048x1, .i1⟩
  | .hbm, ⟨21, _⟩ => ⟨S32x2048x1, .i1⟩
  | .hbm, ⟨22, _⟩ => ⟨S_, .i1⟩
  | .hbm, ⟨23, _⟩ => ⟨S32x2048, .i1⟩
  | .hbm, ⟨24, _⟩ => ⟨S32x2048x4096, .f32⟩
  | .hbm, ⟨25, _⟩ => ⟨S32x2048x4096, .i1⟩
  | .hbm, ⟨26, _⟩ => ⟨S_, .f32⟩
  | .hbm, ⟨27, _⟩ => ⟨S32x2048x4096, .f32⟩
  | .hbm, ⟨28, _⟩ => ⟨S32x2048x4096, .f32⟩
  | .hbm, ⟨29, _⟩ => ⟨S_, .f32⟩
  | .hbm, ⟨30, _⟩ => ⟨S32x4096, .f32⟩
  | .hbm, ⟨31, _⟩ => ⟨S_, .f32⟩
  | .hbm, ⟨32, _⟩ => ⟨S32x4096, .f32⟩
  | .hbm, ⟨33, _⟩ => ⟨S32x4096, .f32⟩
  | .hbm, ⟨34, _⟩ => ⟨S32x8192, .f32⟩
  | .hbm, ⟨35, _⟩ => ⟨S1x8192, .f32⟩
  | .hbm, ⟨36, _⟩ => ⟨S32x8192, .f32⟩
  | .hbm, ⟨37, _⟩ => ⟨S32x8192, .f32⟩
  | .hbm, ⟨38, _⟩ => ⟨S_, .f32⟩
  | .hbm, ⟨39, _⟩ => ⟨S32x8192, .f32⟩
  | .hbm, ⟨40, _⟩ => ⟨S32x8192, .f32⟩
  | .hbm, ⟨41, _⟩ => ⟨S32x2, .f32⟩
  | .hbm, ⟨42, _⟩ => ⟨S1x2, .f32⟩
  | .hbm, ⟨43, _⟩ => ⟨S32x2, .f32⟩
  | .hbm, ⟨44, _⟩ => ⟨S32x2, .f32⟩
  | _, _ => ⟨S32x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_cst : Ref sig .tc := ⟨.hbm, 29, rfl⟩
abbrev main_v1 : Ref sig .tc := ⟨.hbm, 30, rfl⟩
abbrev main_cst_0 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_call1_cst : Ref sig .tc := ⟨.hbm, 38, rfl⟩
abbrev main_call1_v0 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩

abbrev nD : Nat := 1
abbrev τ : Topo := Topo.v7x

variable {F : FTy → Type} [FloatOps F]
-- ==== Proof.Base.lean ====
/-
  What the modules of this proof share: the program as the launch theorem of a program with a SparseCore call sees it,
  the ghost state it runs over (the launch's handshakes, the TensorCore pipeline's staging cells, the counters of the
  tiles' own transfers), the arrays' locations, and the histogram a tile builds, as a function.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.ValueIdxCore
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Pooled

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open Idealize.SL.Sem
open Idealize.ShloMosaic.Rounds

variable {F : FTy → Type} [FloatOps F]

/-! ## The program as the launch theorem sees it -/

/-- The labels of the program before the SparseCore launch is put around it: the kernels' and the pipeline's. -/
abbrev ΛP : Labels := Pipeline.Sig Λ₀ (Fin 1) fun p => (pcfgs (F := F) p).Adm
/-- The one SparseCore call. -/
abbrev K : SparseCore.Cfg τ sig (ΛP (F := F)) 1 := sc (F := F)
/-- The bodies inside the launch: the two kernels and the pipeline's region. -/
abbrev D : Defs nD τ sig (Elt F) (ΛP (F := F)) := Pipeline.defs pcfgs defs₀
/-- The kernels call nothing recursively, so they need no measure. -/
abbrev 𝒱₀ : Variants := Variants.none
/-- The same, inside the launch. -/
abbrev 𝒱P : Variants := 𝒱₀.lift
/-- The measure the launch starts from. -/
abbrev v₀ : 𝒱P.V := Sum.inl none

/-- The launch's semaphores are distinct and unscoped, and no buffer is shared among a SparseCore's tiles. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state -/

/-- The handshakes' rounds. -/
abbrev UH : Type := URounds (GSem nD τ sig) ℕ
/-- The pipeline's rounds. -/
abbrev UP : Type := URounds (GSem nD τ sig) Unit
/-- The handshakes' rounds, the pipeline's rounds and the counters of the tiles' transfers, side by side. -/
abbrev UU : Type := UH × (UP × Counters)

local notation "𝕄" => MT nD τ sig (HIx 1) (Elt F) ℕ UU ℕ

/-- The handshakes' rounds are the left component; -/
abbrev EH : Emb UH (MT nD τ sig (HIx 1) (Elt F) ℕ UU ℕ) := embL
/-- the pipeline's rounds the left of what is right of it. -/
def EP : Emb UP (MT nD τ sig (HIx 1) (Elt F) ℕ UU ℕ) := (Emb.inl : Emb UP (UP × Counters)).trans embR

/-- The pipeline's rounds lie in the user's part of the ghost state. -/
instance EP_landsIn : (EP (F := F)).LandsIn (upEmb : UEmb _ 𝕄) := by unfold EP; infer_instance

/-! ## The arrays -/

/-- The indices, as a location of device `d`. -/
abbrev xLoc (d : Dev nD) : Loc nD τ sig := (SparseCore.T d).loc main_arg0
/-- The counts, as a location of device `d`. -/
abbrev cLoc (d : Dev nD) : Loc nD τ sig := (SparseCore.T d).loc main_v0

/-- Row `b` of the indices. -/
def xRow (b : ℕ) : Finset S32x2048.Idx := Finset.univ.filter fun i => (i 0).val = b
/-- Row `b` of the counts. -/
def cRow (b : ℕ) : Finset S32x1024.Idx := Finset.univ.filter fun i => (i 0).val = b
/-- The rows of the indices SparseCore `c` works on: those of its parity. -/
def xCore (c : ℕ) : Finset S32x2048.Idx := Finset.univ.filter fun i => (i 0).val % 2 = c
/-- The rows of the counts SparseCore `c` works on: likewise those of its parity. -/
def cCore (c : ℕ) : Finset S32x1024.Idx := Finset.univ.filter fun i => (i 0).val % 2 = c

/-! ## The histogram -/

/-- The `l`-th index of row `b` (0 past the row's end, which no proof reads). -/
def word (x : IVec S32x2048 32) (b : Fin 32) (l : ℕ) : BitVec 32 :=
  if h : l < 2048 then x (ValueIdx.ix2 b ⟨l, h⟩) else 0#32

/-- The counts after the first `n` words: from zero, each word adding one at the place it names. -/
def hist (w : ℕ → BitVec 32) : ℕ → Vec F S1024 .f32
  | 0 => fun _ => Scalar.ofBits .f32 0x00000000#32
  | n + 1 => fun j => if (j 0).val = (w n).toNat then FloatOps.idxAddf (hist w n j) (Scalar.ofBits .f32 0x3F800000#32) else hist w n j

/-- The counts of every row of `x`. -/
def counts (x : IVec S32x2048 32) : Vec F S32x1024 .f32 := fun i => hist (word x (i 0)) 2048 (ValueIdx.ix1 (i 1))

end Cert.Proof.Pooled

end
-- ==== Proof.Tile.lean ====
/-
  The SparseCore kernel on one tile: its row of the indices is copied in, the counts are zeroed, each index of the row
  adds one at the place it names, and the counts are copied out to the tile's row of the counts array.
-/
module

public import proofs.«01_k».proof.Proof.Base
public import Idealize.ShloMosaic.Lib.Pipeline.Value
public import Idealize.ShloMosaic.Lib.WritesUnit

@[expose] public section

noncomputable section

namespace Cert.Proof.Pooled

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

-- the kernel's memrefs, spelt as the body table passes them
local notation "xW" => (Memref.whole Cert.KernelIdeal.main_arg0_scv : Memref Cert.KernelIdeal.sig Kind.scVector Space.hbm Cert.KernelIdeal.S32x2048 EltTy.i32)
local notation "cW" => (Memref.whole Cert.KernelIdeal.main_v0_scv : Memref Cert.KernelIdeal.sig Kind.scVector Space.hbm Cert.KernelIdeal.S32x1024 EltTy.f32)
local notation "sX" => (Memref.whole Cert.KernelIdeal.cc0_scratch0 : Memref Cert.KernelIdeal.sig Kind.scVector Space.vmem Cert.KernelIdeal.S2048 EltTy.i32)
local notation "sU" => (Memref.whole Cert.KernelIdeal.cc0_scratch1 : Memref Cert.KernelIdeal.sig Kind.scVector Space.vmem Cert.KernelIdeal.S16384 EltTy.f32)
local notation "sC" => (Memref.whole Cert.KernelIdeal.cc0_scratch2 : Memref Cert.KernelIdeal.sig Kind.scVector Space.vmem Cert.KernelIdeal.S1024 EltTy.f32)

section Tile

variable (m : (ℓ : Loc nD τ sig) → Buf (Elt F) ℓ) (d : Dev nD) (L : grid0.Coords)

/-- The SparseCore of the tile at coordinates `L`. -/
abbrev cV (L : grid0.Coords) : Fin τ.nSC := (L 0).castLE hcore0
/-- The subcore of the tile at coordinates `L`. -/
abbrev jV (L : grid0.Coords) : Fin τ.nSub := (L 1).castLE hsub0
/-- The tile's row. -/
abbrev wid (L : grid0.Coords) : ℕ := 2 * (L 1).val + (L 0).val

/-- The tile's row of the indices, as the kernel addresses it. -/
abbrev xRowK (L : grid0.Coords) : Memref sig .scVector .hbm S2048 .i32 :=
  ((xW).slice (Rect.unit (s := S32x2048) (k0_off1 L) S1x2048.size (k0_off1_inb L)) (fun _ => rfl)).squeeze S2048 squeezes_S1x2048_S2048
/-- The tile's row of the counts, as the kernel addresses it. -/
abbrev cRowK (L : grid0.Coords) : Memref sig .scVector .hbm S1024 .f32 :=
  ((cW).slice (Rect.unit (s := S32x1024) (k0_off4 L) S1x1024.size (k0_off4_inb L)) (fun _ => rfl)).squeeze S1024 squeezes_S1x1024_S1024

/-- The semaphore of the tile's copy in. -/
abbrev cell0 (c : Fin τ.nSC) (i : Fin τ.nSub) : GSem nD τ sig := (V d c i, .dma cc0_scoped0.sem)
/-- The semaphore of the tile's copy out. -/
abbrev cell1 (c : Fin τ.nSC) (i : Fin τ.nSub) : GSem nD τ sig := (V d c i, .dma cc0_scoped1.sem)

omit [FloatOps F] in
/-- The copy in starts at the beginning of the tile's row. -/
theorem k0_off1_eq : k0_off1 L = ![wid L, 0] := by
  have h0 : (L 0).val < 2 := (L 0).isLt
  have h1 : (L 1).val < 16 := (L 1).isLt
  unfold k0_off1
  simp only [Scalar.muli, Scalar.addi, IntOp.muli, IntOp.addi]
  congr 1
  have h : (2 * (L 1).val + (L 0).val) < 4294967296 := by omega
  simp only [BitVec.toNat_add, BitVec.toNat_mul, BitVec.toNat_ofNat, wid]
  have e1 : (L 1).val % 2 ^ 32 = (L 1).val := Nat.mod_eq_of_lt (by omega)
  have e0 : (L 0).val % 2 ^ 32 = (L 0).val := Nat.mod_eq_of_lt (by omega)
  rw [e1, e0]; norm_num
  omega
omit [FloatOps F] in
/-- The copy out starts at the beginning of the tile's row. -/
theorem k0_off4_eq : k0_off4 L = ![wid L, 0] := k0_off1_eq L

omit [FloatOps F] in
/-- The elements the copy in reads are those of the tile's row of the indices. -/
theorem set_xRowK : (xRowK L).view.set = xRow (wid L) := by
  show (((xW).view.slice (Rect.unit (s := S32x2048) (k0_off1 L) S1x2048.size (k0_off1_inb L))).reshape S2048 squeezes_S1x2048_S2048.numel_eq).set = _
  rw [View.set_reshape, View.set_slice]
  refine (Finset.map_refl).trans ?_
  ext i
  rw [Rect.mem_set_unit]
  simp only [k0_off1_eq, xRow, Finset.mem_filter, Finset.mem_univ, true_and]
  constructor
  · intro h; have := h 0; simp at this; omega
  · intro h a; have h1 : (i 1).val < 2048 := (i 1).isLt
    fin_cases a <;> simp <;> omega
omit [FloatOps F] in
/-- The elements the copy out writes are those of the tile's row of the counts. -/
theorem set_cRowK : (cRowK L).view.set = cRow (wid L) := by
  show (((cW).view.slice (Rect.unit (s := S32x1024) (k0_off4 L) S1x1024.size (k0_off4_inb L))).reshape S1024 squeezes_S1x1024_S1024.numel_eq).set = _
  rw [View.set_reshape, View.set_slice]
  refine (Finset.map_refl).trans ?_
  ext i
  rw [Rect.mem_set_unit]
  simp only [k0_off4_eq, cRow, Finset.mem_filter, Finset.mem_univ, true_and]
  constructor
  · intro h; have := h 0; simp at this; omega
  · intro h a; have h1 : (i 1).val < 1024 := (i 1).isLt
    fin_cases a <;> simp <;> omega

omit [FloatOps F] in
/-- Holding the kernel's view of the row of indices is holding that row of the array. -/
theorem pts_xRowK (f : Buf (Elt F) (xLoc d)) :
    ((xRowK L).view.loc (V d (cV L) (jV L)) ↦[(xRowK L).view.set]{fullShare} f : sProp 𝕄) = xLoc d ↦[xRow (wid L)]{fullShare} f := by
  rw [set_xRowK]
omit [FloatOps F] in
/-- Holding the kernel's view of the row of counts is holding that row of the array. -/
theorem pts_cRowK (f : Buf (Elt F) (cLoc d)) :
    ((cRowK L).view.loc (V d (cV L) (jV L)) ↦[(cRowK L).view.set]{fullShare} f : sProp 𝕄) = cLoc d ↦[cRow (wid L)]{fullShare} f := by
  rw [set_cRowK]
omit [FloatOps F] in
/-- Holding the kernel's view of the index scratch is holding the whole scratch. -/
theorem pts_sX (f : Buf (Elt F) ((V d (cV L) (jV L)).loc cc0_scratch0)) :
    ((sX).view.loc (V d (cV L) (jV L)) ↦[(sX).view.set]{fullShare} f : sProp 𝕄) = (V d (cV L) (jV L)).loc cc0_scratch0 ↦{fullShare} f := by
  simp only [Memref.view_whole, View.set_whole]
omit [FloatOps F] in
/-- Holding the kernel's view of the count scratch is holding the whole scratch. -/
theorem pts_sC (f : Buf (Elt F) ((V d (cV L) (jV L)).loc cc0_scratch2)) :
    ((sC).view.loc (V d (cV L) (jV L)) ↦[(sC).view.set]{fullShare} f : sProp 𝕄) = (V d (cV L) (jV L)).loc cc0_scratch2 ↦{fullShare} f := by
  simp only [Memref.view_whole, View.set_whole]

omit [FloatOps F] in
/-- The two copies' semaphores are among the tile's own: its semaphores at zero are these two and the rest. -/
theorem ownSems0_V :
    (ownSems0 (V d (cV L) (jV L)) : sProp 𝕄)
      = iprop(semVal (cell0 d (cV L) (jV L)) 0 ∗ semVal (cell1 d (cV L) (jV L)) 0
          ∗ bigSep (((ownCells (V d (cV L) (jV L))).erase (cell0 d (cV L) (jV L))).erase (cell1 d (cV L) (jV L))) fun g => semVal g 0) := by
  unfold SparseCore.Cfg.ownSems0
  rw [SparseCore.bigSep_erase' ((mem_ownCells (g := cell0 d (cV L) (jV L))).mpr ⟨rfl, by
      show (SemLoc.dma cc0_scoped0.sem : SemLoc sig).isScoped .scVector = true; decide⟩),
    SparseCore.bigSep_erase' (Finset.mem_erase.mpr ⟨by simp [cell0, cell1]; decide, (mem_ownCells (g := cell1 d (cV L) (jV L))).mpr ⟨rfl, by
      show (SemLoc.dma cc0_scoped1.sem : SemLoc sig).isScoped .scVector = true; decide⟩⟩)]

omit [FloatOps F] in
/-- The index and the count scratch are among the tile's own buffers: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch2 ↦{fullShare} f)
          ∗ bigSep (((ownRefs (τ := τ) (.scVector (cV L) (jV L))).erase ((Proc.scVector (cV L) (jV L)).devRef cc0_scratch0)).erase
              ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩)]

/-- What a tile takes: its row of the indices and of the counts. -/
abbrev tileIn (b : ℕ) : sProp 𝕄 := iprop((xLoc d ↦[xRow b]{fullShare} m (xLoc d)) ∗ cLoc d ↦[cRow b]{fullShare} m (cLoc d))
/-- What a tile hands back: its row of the indices as it was, and its row of the counts filled. -/
abbrev tileOut (b : ℕ) : sProp 𝕄 := iprop((xLoc d ↦[xRow b]{fullShare} m (xLoc d)) ∗ cLoc d ↦[cRow b]{fullShare} counts (F := F) (m (xLoc d)))

/-- Every index is below 1000 (what the certificate's precondition says of them). -/
def InRange : Prop := ∀ (d : Dev nD) (i : S32x2048.Idx), ((m (xLoc d) : IVec S32x2048 32) i).toNat < 1000

/-- The tile's row, among the array's rows. -/
abbrev widF (L : grid0.Coords) : Fin 32 := ⟨wid L, by have h0 : (L 0).val < 2 := (L 0).isLt; have h1 : (L 1).val < 16 := (L 1).isLt; unfold wid; omega⟩

/-- The words of the tile's row, and the counts it makes of them. -/
abbrev tw (L : grid0.Coords) : ℕ → BitVec 32 := word (m (xLoc d)) (widF L)

omit [FloatOps F] in
/-- A word of the row is below 1000. -/
theorem tw_lt (hpre : InRange m) (l : ℕ) : (tw m d L l).toNat < 1000 := by
  unfold tw word
  split
  · exact hpre d _
  · decide

omit [FloatOps F] in
/-- The tile's row of the indices, read through the kernel's view of it, is the array's row; -/
theorem read_xRowK (x : IVec S32x2048 32) (l : S2048.Idx) :
    (xRowK L).view.read (Elt F) x l = x (ValueIdx.ix2 (widF L) (l 0)) := by
  refine (congrFun (Memref.read_squeeze_slice (Val := Elt F) xW (Rect.unit (s := S32x2048) (k0_off1 L) S1x2048.size (k0_off1_inb L)) (fun _ => rfl)
    squeezes_S1x2048_S2048 squeezes_S1x2048_S2048.numel_eq x) l).trans ?_
  refine (shapeCast_apply _ _ l (ValueIdx.ix2 (n0 := 1) (n1 := 2048) 0 (l 0)) (by
    rw [Shape.rowMajor_val_two, Shape.rowMajor_val_one]; simp)).trans ?_
  rw [View.readAt_apply]
  refine congrArg x (funext fun a => Fin.ext ?_)
  fin_cases a <;> simp [k0_off1_eq]

omit [FloatOps F] in
/-- and its row of the counts likewise. -/
theorem read_cRowK (x : Vec F S32x1024 .f32) (l : S1024.Idx) :
    (cRowK L).view.read (Elt F) x l = x (ValueIdx.ix2 (widF L) (l 0)) := by
  refine (congrFun (Memref.read_squeeze_slice (Val := Elt F) cW (Rect.unit (s := S32x1024) (k0_off4 L) S1x1024.size (k0_off4_inb L)) (fun _ => rfl)
    squeezes_S1x1024_S1024 squeezes_S1x1024_S1024.numel_eq x) l).trans ?_
  refine (shapeCast_apply _ _ l (ValueIdx.ix2 (n0 := 1) (n1 := 1024) 0 (l 0)) (by
    rw [Shape.rowMajor_val_two, Shape.rowMajor_val_one]; simp)).trans ?_
  rw [View.readAt_apply]
  refine congrArg x (funext fun a => Fin.ext ?_)
  fin_cases a <;> simp [k0_off4_eq]

omit [FloatOps F] in
/-- A whole scratch reads its contents. -/
theorem read_sX (g : (sX).view.ty.Contents (Elt F)) : (sX).view.read (Elt F) g = g := View.read_whole cc0_scratch0 g
omit [FloatOps F] in
/-- The whole count scratch reads its contents. -/
theorem read_sC (g : (sC).view.ty.Contents (Elt F)) : (sC).view.read (Elt F) g = g := View.read_whole cc0_scratch2 g

omit [FloatOps F] in
/-- The index scratch after the copy holds the row's words. -/
theorem sX_words (f : Buf (Elt F) ((V d (cV L) (jV L)).loc cc0_scratch0)) :
    (sX).view.writes (Elt F) f [⟨Rect.whole cc0_scratch0.ty.shape, (xRowK L).view.read (Elt F) (m (xLoc d))⟩]
      = (fun l => tw m d L (l 0).val : IVec S2048 32) := by
  refine (read_sX (F := F) _).symm.trans ((View.read_writes_whole (sX).view f _).trans (funext fun (l : S2048.Idx) => ?_))
  have hl : (l 0).val < 2048 := (l 0).isLt
  refine (read_xRowK (F := F) L _ l).trans ?_
  unfold tw word
  rw [dif_pos hl]; rfl

/-- The counts' row after the copy out is the row of `counts`. -/
theorem cRow_counts (f : Buf (Elt F) (cLoc d)) {g : S1024.Idx → Elt F .f32} (hg : g = hist (tw m d L) 2048) :
    ∀ i ∈ (cRowK L).view.set, (cRowK L).view.writes (Elt F) f [⟨Rect.whole S1024, g⟩] i = counts (F := F) (m (xLoc d)) i := by
  intro i hi
  obtain ⟨y, -, rfl⟩ := Finset.mem_map.mp hi
  refine (congrFun (View.read_writes_whole (cRowK L).view f g) y).trans ?_
  refine Eq.trans ?_ (read_cRowK (F := F) L (counts (m (xLoc d))) y).symm
  rw [hg]; unfold counts
  exact congrArg (hist (F := F) (tw m d L) 2048) (ValueIdx.eq_ix1 y)

/-- Sixteen loaded words are the row's next sixteen. -/
theorem load_words (k : Fin k0_t2_loop.trips) (x : S16.Idx) :
    (sX).view.readAt (Elt F) (Rect.unit (s := S2048) (k0_off3 k) S16.size (k0_off3_inb k)).toLoadRect (fun l => tw m d L (l 0).val : IVec S2048 32) x
      = tw m d L (16 * k.val + (x 0).val) := by
  rw [View.readAt_apply]
  refine congrArg (tw m d L) ?_
  simp [k0_off3_eq]

/-- Their check holds: every one of them names a count. -/
theorem chk_of_pre (hpre : InRange m) (k : Fin k0_t2_loop.trips) :
    k0_chk1 ((sX).view.readAt (Elt F) (Rect.unit (s := S2048) (k0_off3 k) S16.size (k0_off3_inb k)).toLoadRect (fun l => tw m d L (l 0).val : IVec S2048 32)) := by
  intro a x
  obtain rfl : a = 0 := Subsingleton.elim _ _
  exact (congrArg BitVec.toNat (load_words (F := F) m d L k x)).trans_lt ((tw_lt m d L hpre _).trans (by decide))

/-- Sixteen more zeros. -/
theorem zero_step (k : Fin k0_t1_loop.trips) (f : Vec F S1024 .f32) (hf : ∀ j : S1024.Idx, (j 0).val < 16 * k.val → f j = Scalar.ofBits .f32 0x00000000#32)
    (j : S1024.Idx) (hj : (j 0).val < 16 * (k.val + 1)) :
    (sC).view.writes (Elt F) f [⟨Rect.unit (s := S1024) (k0_off2 k) S16.size (k0_off2_inb k), k0_pay1⟩] j = Scalar.ofBits .f32 0x00000000#32 := by
  refine (congrFun (read_sC (F := F) _).symm j).trans ?_
  by_cases h : (j 0).val < 16 * k.val
  · refine (View.read_writes_cons_unit_of_not_mem (sC).view f _ _ _ j (k0_off2_eq k) 0 (Or.inl h)).trans ?_
    exact hf j h
  · refine (View.read_writes_cons_unit_of_mem (sC).view f _ _ _ j (fun (a : Fin 1) => ⟨(j 0).val - 16 * k.val, by obtain rfl : a = 0 := Subsingleton.elim _ _; show (j 0).val - 16 * k.val < 16; omega⟩) (k0_off2_eq k) (fun (a : Fin 1) => ?_)).trans ?_
    · obtain rfl : a = 0 := Subsingleton.elim _ _
      show (j 0).val = 16 * k.val + ((j 0).val - 16 * k.val); omega
    · rfl

/-- The counts' scratch as the scatter addresses it. -/
theorem pts_sC_whole (f : Buf (Elt F) ((V d (cV L) (jV L)).loc cc0_scratch2)) :
    (((sC).access (.whole S1024)).loc (V d (cV L) (jV L)) ↦[((sC).access (.whole S1024)).set]{fullShare} f : sProp 𝕄)
      = ((sC).view.loc (V d (cV L) (jV L)) ↦[(sC).view.set]{fullShare} f) := by
  rw [show ((sC).access (.whole S1024)).set = Finset.univ from Memref.set_access_whole (cc0_scratch2 : Ref sig .scVector),
    show (sC).view.set = Finset.univ from by simp only [Memref.view_whole, View.set_whole]]

/-- One step of a left fold over the first `N` numbers, followed by a sequence. -/
theorem foldl_finRange_eq {α : Type*} (N : ℕ) (f : α → Fin N → α) (g : ℕ → α) (h : ∀ k : Fin N, f (g k.val) k = g (k.val + 1)) :
    (List.finRange N).foldl f (g 0) = g N := by
  induction N with
  | zero => rfl
  | succ N ih =>
    rw [List.finRange_succ_last, List.foldl_append, List.foldl_map]
    rw [ih (fun a k => f a k.castSucc) (fun k => h k.castSucc)]
    exact h (Fin.last N)

/-- Sixteen words added into the counts of the first `n` give the counts of the first `n + 16`. -/
theorem storeIdx_hist (w : ℕ → BitVec 32) (n : ℕ) (v : IVec S16 32) (h : ∀ a x, ((![v] : Fin 1 → IVec S16 32) a x).toNat < S1024.size a)
    (hv : ∀ x : S16.Idx, v x = w (n + (x 0).val)) :
    storeIdx (hist (F := F) w n) ![v] k0_pay2 (fun _ => 1#1) true h = hist w (n + 16) := by
  unfold storeIdx
  refine foldl_finRange_eq 16 _ (fun k => hist (F := F) w (n + k)) fun k => funext fun j => ?_
  have hi : (v (Shape.ofLane (d := ![16]) k)).toNat = (w (n + k.val)).toNat := congrArg BitVec.toNat (hv _)
  refine (congrFun (if_pos rfl) j).trans ?_
  by_cases e : (j 0).val = (w (n + k.val)).toNat
  · have hji : j = idxAt (s := S1024) ![v] h (Shape.ofLane (d := ![16]) k) := funext fun a => Fin.ext (by
      obtain rfl : a = 0 := Subsingleton.elim _ _; exact e.trans hi.symm)
    refine (if_pos fun a => congrArg (fun j : S1024.Idx => (j a).val) hji).trans (Eq.trans ?_ (if_pos e).symm)
    exact congrArg (fun i => FloatOps.idxAddf (hist (F := F) w (n + k.val) i) (Scalar.ofBits .f32 0x3F800000#32)) hji.symm
  · exact (if_neg fun q => e ((q 0).trans hi)).trans (if_neg e).symm

/-- After `k` trips of the first loop the first `16 k` counts are zero. -/
def inv1 (k : ℕ) (_ : PUnit) : sProp 𝕄 :=
  iprop(∃ f : Vec F S1024 .f32, ⌜∀ j : S1024.Idx, (j 0).val < 16 * k → f j = Scalar.ofBits .f32 0x00000000#32⌝
    ∗ (sC).view.loc (V d (cV L) (jV L)) ↦[(sC).view.set]{fullShare} f)

/-- After `k` trips of the second loop the counts are those of the row's first `16 k` words. -/
def inv2 (k : ℕ) (_ : PUnit) : sProp 𝕄 :=
  iprop(((sX).view.loc (V d (cV L) (jV L)) ↦[(sX).view.set]{fullShare} (fun l => tw m d L (l 0).val : IVec S2048 32))
    ∗ (sC).view.loc (V d (cV L) (jV L)) ↦[(sC).view.set]{fullShare} (hist (tw m d L) (16 * k) : Vec F S1024 .f32))

/-- A scatter over the counts' scratch, from what it does to its contents. -/
theorem write_storeIdx (g g' : Vec F S1024 .f32) (v : IVec S16 32)
    (h : ∀ a x, ((![v] : Fin 1 → IVec S16 32) a x).toNat < S1024.size a) (e : storeIdx g ![v] k0_pay2 (fun _ => 1#1) true h = g') :
    ((sC).access (.whole cc0_scratch2.ty.shape)).write (Elt F) g
      (storeIdx (((sC).access (.whole cc0_scratch2.ty.shape)).read (Elt F) g) ![v] k0_pay2 (fun _ => 1#1) true h) Finset.univ = g' :=
  (Memref.write_access_whole_univ (Elt F) (cc0_scratch2 : Ref sig .scVector) _ _).trans
    ((congrArg (fun g : Vec F S1024 .f32 => storeIdx g ![v] k0_pay2 (fun _ => 1#1) true h)
      (Memref.read_access_whole (Elt F) (cc0_scratch2 : Ref sig .scVector) g)).trans e)

/-- The counts' scratch after a scatter, at its contents spelt otherwise. -/
theorem close_sC {g g' : Buf (Elt F) ((V d (cV L) (jV L)).loc cc0_scratch2)} (e : g = g') :
    (((sC).access (.whole cc0_scratch2.ty.shape)).loc (V d (cV L) (jV L)) ↦[((sC).access (.whole cc0_scratch2.ty.shape)).set]{fullShare} g : sProp 𝕄)
      ⊢ ((sC).view.loc (V d (cV L) (jV L)) ↦[(sC).view.set]{fullShare} g') := by
  subst e; exact Entails.of_eq (pts_sC_whole d L g)

/-- The index scratch after the copy in, likewise; -/
theorem close_sX {g g' : Buf (Elt F) ((V d (cV L) (jV L)).loc cc0_scratch0)} (e : g = g') :
    ((sX).view.loc (V d (cV L) (jV L)) ↦[(sX).view.set]{fullShare} g : sProp 𝕄) ⊢ ((sX).view.loc (V d (cV L) (jV L)) ↦[(sX).view.set]{fullShare} g') := by
  subst e; exact .rfl

/-- the counts' row after the copy out, likewise, on the row. -/
theorem close_cRow {g g' : Buf (Elt F) (cLoc d)} (e : ∀ i ∈ (cRowK L).view.set, g i = g' i) :
    ((cRowK L).view.loc (V d (cV L) (jV L)) ↦[(cRowK L).view.set]{fullShare} g : sProp 𝕄) ⊢ cLoc d ↦[cRow (wid L)]{fullShare} g' :=
  Entails.of_eq ((pointsTo_congr e).trans (pts_cRowK d L g'))

/-- The tile's kernel: given its row of indices, all in range, and its row of the counts array, it returns the row of
    indices unchanged and the row of counts holding the histogram of those indices, with its scratches and semaphores
    as it found them. -/
theorem tile_body (hpre : InRange m) (O : CellTallies nD τ sig (HIx 1)) (W : Waits sig (HIx 1)) (hO : ∀ g, O g none = 0) :
    iprop(levAts (K (F := F)).L (K (F := F)).lev ∗ emp ∗ tileIn m d (wid L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_histogram L xW (Memref.isWhole_whole _) cW (Memref.isWhole_whole _)
            sX (Memref.isWhole_whole _) sU (Memref.isWhole_whole _) sC (Memref.isWhole_whole _) cc0_scoped0 cc0_scoped1)
          fun _ => iprop(tileOut m d (wid L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_sc_histogram_eq_skeleton]; unfold cc0_sc_histogram_skel
  rw [(K (F := F)).scopedBufs_V facts d (cV L) (jV L), SparseCore.Cfg.scopedSems0_V (Val := Elt F) d (cV L) (jV L), ownSems0_V, ownBufs_V]
  iintro ⟨#Hlv, -, ⟨Hx, Hc⟩, ⟨⟨%fx, HsX⟩, ⟨%fc, HsC⟩, Hbufs⟩, ⟨Hsem0, Hsem1, Hsems⟩, HO⟩
  ihave Hmw := ((K (F := F)).mayWaits_none (thr := V d (cV L) (jV L)) hO) $$ Hlv
  ihave Hx' := (Entails.of_eq (pts_xRowK (F := F) d L _).symm) $$ Hx
  ihave Hc' := (Entails.of_eq (pts_cRowK (F := F) d L _).symm) $$ Hc
  ihave HsX' := (Entails.of_eq (pts_sX (F := F) d L _).symm) $$ HsX
  ihave HsC' := (Entails.of_eq (pts_sC (F := F) d L _).symm) $$ HsC
  sl_exec
  sl_for (inv1 d L) $$ [HsC']
  case region =>
    intro k _
    unfold inv1
    iintro ⟨%f, %hf, HsC⟩
    sl_exec
    sl_step
    iexists _; isplitr
    · ipureintro
      intro j hj
      exact zero_step k f hf j hj
    · iexact HsC
  · unfold inv1
    iexists fc; isplitr
    · ipureintro; intro j hj; omega
    · iexact HsC'
  iintro %_ HI
  unfold inv1
  icases HI with ⟨%f, %hf, HsC⟩
  have hz : f = hist (tw m d L) (16 * 0) := funext fun j => hf j (by
    have : (j 0).val < 1024 := (j 0).isLt
    rw [show Scf.trips k0_t1_loop.lb k0_t1_loop.ub k0_t1_loop.st = 64 by decide]; omega)
  subst hz
  sl_for (inv2 m d L) $$ [HsC HsX']
  case region =>
    intro k _
    unfold inv2
    iintro ⟨HsX, HsC⟩
    sl_exec
    rw [wp_assume_of _ _ _ _ (chk_of_pre m d L hpre k)]
    ihave HsC' := (Entails.of_eq (pts_sC_whole (F := F) d L _).symm) $$ HsC
    iapply (SparseCore.wp_vectorStoreIdx 𝒱₀ (V d (cV L) (jV L)) none Set.univ (base := (sC))) $$ HsC'; iintro HsC
    sl_step
    isplitl [HsX]
    · iexact HsX
    · iapply (close_sC (F := F) d L ?e) $$ HsC
      case e =>
        exact write_storeIdx _ _ _ _ ((storeIdx_hist (tw m d L) (16 * k.val) _ _ (load_words m d L k)).trans
          (congrArg (hist (F := F) (tw m d L)) (Nat.mul_succ 16 k.val).symm))
  · unfold inv2
    isplitl [HsX']
    · iapply (close_sX (F := F) d L ?e) $$ HsX'
      case e => exact sX_words m d L _
    · iexact HsC
  iintro %_ HI
  unfold inv2
  icases HI with ⟨HsX, HsC⟩
  sl_exec
  sl_step
  ihave HxO := (Entails.of_eq (pts_xRowK (F := F) d L _)) $$ Hx'
  ihave HsX := (Entails.of_eq (pts_sX (F := F) d L _)) $$ HsX
  ihave HsC := (Entails.of_eq (pts_sC (F := F) d L _)) $$ HsC
  isplitl [HxO Hc']
  · isplitl [HxO]
    · iexact HxO
    · iapply (close_cRow (F := F) d L ?e) $$ Hc'
      case e => exact cRow_counts m d L _ (congrArg (hist (F := F) (tw m d L)) (show 16 * Scf.trips k0_t2_loop.lb k0_t2_loop.ub k0_t2_loop.st = 2048 by decide))
  isplitl [HsX HsC Hbufs]
  · isplitl [HsX]; · iexists _; iexact HsX
    isplitl [HsC]; · iexists _; iexact HsC
    iexact Hbufs
  isplitl [Hsem0 Hsem1 Hsems]
  · isplitl [Hsem0]; · iexact Hsem0
    isplitl [Hsem1]; · iexact Hsem1
    iexact Hsems
  iexists _; isplitr
  rotate_left
  · iexact HO
  ipureintro
  intro p hp
  rcases Finset.mem_insert.mp hp with rfl | hp
  · exact .inr rfl
  rcases Finset.mem_insert.mp hp with rfl | hp
  · exact .inr rfl
  exact .inl hp

end Tile

end Cert.Proof.Pooled

end
-- ==== Proof.Mlp.lean ====
/-
  The TensorCore kernel at one grid point: the first point pools the embeddings under the counts and clears the
  accumulator, every point adds its hidden block's share to the accumulator, and the last point adds the second bias
  and stores the result.
-/
module

public import proofs.«01_k».proof.Proof.Base
public import Idealize.ShloMosaic.Lib.Pipeline.Value
public import Idealize.ShloMosaic.Lib.Pipeline.FrameBody
public import Idealize.ShloMosaic.Lib.WritesUnit

@[expose] public section

noncomputable section

namespace Cert.Proof.Pooled

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline

variable {F : FTy → Type} [FloatOps F]

local notation "𝕄" => MT nD τ sig (HIx 1) (Elt F) ℕ UU ℕ

/-- The condition of the first branch: the point is the grid's first. -/
abbrev first (i : grid1.Coords) : BitVec 1 :=
  Scalar.cmpi .ne (Scalar.extui (Scalar.cmpi .eq (BitVec.ofNat 32 (i 0).val) 0#32) : BitVec 32) 0#32

/-- The counts' columns the kernel reads: those of the embedding's rows. -/
def countCols (x : Vec F S32x1024 .f32) : Vec F S32x1000 .f32 :=
  fun j => x ((Rect.unit (s := S32x1024) ![0, 0] S32x1000.size inb_S32x1024_S32x1000_0_0).emb j)

/-- The pooled embeddings from the counts and the embedding. -/
def pool (x1 : Vec F S32x1024 .f32) (x2 : Vec F S1000x4096 .f32) : Vec F S32x4096 .f32 := k1_pay1 (countCols x1) x2

/-- The offset written as two zeros is zero on every axis. -/
theorem hz2 : (![0, 0] : Fin 2 → Nat) = fun _ => 0 := funext fun a => by fin_cases a <;> rfl

/-- A store through the whole of a buffer leaves its payload, whatever was stored before; -/
theorem read_store_all {sp : Space} {S : Shape} {e : EltTy} (v : View sig .tc sp S e) (f : v.ty.Contents (Elt F)) {off : Fin S.rank → Nat}
    (h : off = fun _ => 0) (inb : ∀ a, off a + S.size a ≤ S.size a) (w : S.Idx → Elt F e) (L : List (View.Piece (Elt F) S e)) :
    v.read (Elt F) (v.writes (Elt F) f (⟨Rect.unit off S.size inb, w⟩ :: L)) = w := by
  subst h; funext y
  have h := View.read_writes_cons_emb v f (Rect.whole S) w L y
  rwa [Rect.emb_whole_apply] at h

/-- and a load of the whole of it reads that payload back. -/
theorem load_store_all {sp : Space} {S : Shape} {e : EltTy} (v : View sig .tc sp S e) {off : Fin S.rank → Nat}
    (h : off = fun _ => 0) (inb : ∀ a, off a + S.size a ≤ S.size a) (w : S.Idx → Elt F e) (L : List (View.Piece (Elt F) S e)) :
    v.readCov (⟨Rect.unit off S.size inb, w⟩ :: L) (Rect.unit off S.size inb).toLoadRect = w :=
  (View.ld_unit_zero h inb _).trans (read_store_all v v.junk h inb w L)

/-- The body at a point `i`, on buffers at the values `X1 … X9`. -/
theorem kernelRun (c : Dev nD) (i : grid1.Coords)
    (M1 : Memref sig .tc .vmem S32x1024 .f32) (h1 : M1.IsWhole) (M2 : Memref sig .tc .vmem S1000x4096 .f32) (h2 : M2.IsWhole)
    (M3 : Memref sig .tc .vmem S4096x512 .f32) (h3 : M3.IsWhole) (M4 : Memref sig .tc .vmem S1x512 .f32) (h4 : M4.IsWhole)
    (M5 : Memref sig .tc .vmem S512x2 .f32) (h5 : M5.IsWhole) (M6 : Memref sig .tc .vmem S1x2 .f32) (h6 : M6.IsWhole)
    (M7 : Memref sig .tc .vmem S32x2 .f32) (h7 : M7.IsWhole)
    (M8 : Memref sig .tc .vmem S32x4096 .f32) (h8 : M8.IsWhole) (M9 : Memref sig .tc .vmem S32x2 .f32) (h9 : M9.IsWhole)
    (X1 : Vec F S32x1024 .f32) (X2 : Vec F S1000x4096 .f32) (X3 : Vec F S4096x512 .f32) (X4 : Vec F S1x512 .f32)
    (X5 : Vec F S512x2 .f32) (X6 : Vec F S1x2 .f32) (X7 : Vec F S32x2 .f32) (X8 : Vec F S32x4096 .f32) (X9 : Vec F S32x2 .f32)
    (P : Vec F S32x4096 .f32) (A N O : Vec F S32x2 .f32)
    (hP : P = if first i = 1#1 then pool X1 X2 else X8) (hA : A = if first i = 1#1 then k1_pay2 else X9)
    (hN : N = k1_pay3 P X3 X4 A X5) (hO : O = if k1_cond2 i = 1#1 then k1_pay4 N X6 else X7)
    (W : Waits sig (HIx 1)) (Q : PUnit → sProp 𝕄) :
    iprop(owns (c : Thread nD τ) M1 fullShare X1 ∗ owns (c : Thread nD τ) M2 fullShare X2 ∗ owns (c : Thread nD τ) M3 fullShare X3
      ∗ owns (c : Thread nD τ) M4 fullShare X4 ∗ owns (c : Thread nD τ) M5 fullShare X5 ∗ owns (c : Thread nD τ) M6 fullShare X6
      ∗ owns (c : Thread nD τ) M7 fullShare X7
      ∗ owns (c : Thread nD τ) M8 fullShare X8 ∗ owns (c : Thread nD τ) M9 fullShare X9
      ∗ owes (c : Thread nD τ) 0 W
      ∗ (iprop(owns (c : Thread nD τ) M1 fullShare X1 ∗ owns (c : Thread nD τ) M2 fullShare X2 ∗ owns (c : Thread nD τ) M3 fullShare X3
          ∗ owns (c : Thread nD τ) M4 fullShare X4 ∗ owns (c : Thread nD τ) M5 fullShare X5 ∗ owns (c : Thread nD τ) M6 fullShare X6
          ∗ owns (c : Thread nD τ) M7 fullShare O
          ∗ owns (c : Thread nD τ) M8 fullShare P ∗ owns (c : Thread nD τ) M9 fullShare N
          ∗ owes (c : Thread nD τ) 0 W) -∗ Q ⟨⟩))
    ⊢ wp frame (wpE (defs₀ (F := F)) 𝒱₀ (c : Thread nD τ) none) Set.univ
        (cc1__mlp_body i M1 h1 M2 h2 M3 h3 M4 h4 M5 h5 M6 h6 M7 h7 M8 h8 M9 h9) Q := by
  rw [cc1__mlp_body_eq_skeleton]
  unfold cc1__mlp_body_skel owns
  dsimp only
  by_cases hf : first i = 1#1 <;> by_cases hl : k1_cond2 i = 1#1
  all_goals
    simp only [hf, hl, ↓reduceDIte]
    simp only [hf, hl, ↓reduceIte] at hP hA hO
    iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩,
      ⟨%f8, %e8, H8⟩, ⟨%f9, %e9, H9⟩, HO, Hk⟩
    sl_exec
    sl_step
    iapply Hk
    isplitl [H1]; · iexists f1; isplitr; (· ipureintro; exact e1); iexact H1
    isplitl [H2]; · iexists f2; isplitr; (· ipureintro; exact e2); iexact H2
    isplitl [H3]; · iexists f3; isplitr; (· ipureintro; exact e3); iexact H3
    isplitl [H4]; · iexists f4; isplitr; (· ipureintro; exact e4); iexact H4
    isplitl [H5]; · iexists f5; isplitr; (· ipureintro; exact e5); iexact H5
    isplitl [H6]; · iexists f6; isplitr; (· ipureintro; exact e6); iexact H6
    subst e1 e2 e3 e4 e5 e6 e7 e8 e9 hP hA hN hO
    isplitl [H7]
    · iexists _; isplitr; swap; (· iexact H7)
      ipureintro
      sl_unfold_words
      simp only [read_store_all (S := S32x2) _ _ hz2, read_store_all (S := S32x4096) _ _ hz2, load_store_all (S := S32x2) _ hz2,
        load_store_all (S := S32x4096) _ hz2, View.readAt_eq_ld, View.ld_unit_zero (S := S1000x4096) hz2, View.ld_unit_zero (S := S4096x512) hz2,
        View.ld_unit_zero (S := S1x512) hz2, View.ld_unit_zero (S := S512x2) hz2, View.ld_unit_zero (S := S1x2) hz2,
        View.ld_unit_zero (S := S32x2) hz2, View.ld_unit_zero (S := S32x4096) hz2] <;> rfl
    isplitl [H8]
    · iexists _; isplitr; swap; (· iexact H8)
      ipureintro
      sl_unfold_words
      simp only [read_store_all (S := S32x2) _ _ hz2, read_store_all (S := S32x4096) _ _ hz2, load_store_all (S := S32x2) _ hz2,
        load_store_all (S := S32x4096) _ hz2, View.readAt_eq_ld, View.ld_unit_zero (S := S1000x4096) hz2, View.ld_unit_zero (S := S4096x512) hz2,
        View.ld_unit_zero (S := S1x512) hz2, View.ld_unit_zero (S := S512x2) hz2, View.ld_unit_zero (S := S1x2) hz2,
        View.ld_unit_zero (S := S32x2) hz2, View.ld_unit_zero (S := S32x4096) hz2] <;> rfl
    isplitl [H9]
    · iexists _; isplitr; swap; (· iexact H9)
      ipureintro
      sl_unfold_words
      simp only [read_store_all (S := S32x2) _ _ hz2, read_store_all (S := S32x4096) _ _ hz2, load_store_all (S := S32x2) _ hz2,
        load_store_all (S := S32x4096) _ hz2, View.readAt_eq_ld, View.ld_unit_zero (S := S1000x4096) hz2, View.ld_unit_zero (S := S4096x512) hz2,
        View.ld_unit_zero (S := S1x512) hz2, View.ld_unit_zero (S := S512x2) hz2, View.ld_unit_zero (S := S1x2) hz2,
        View.ld_unit_zero (S := S32x2) hz2, View.ld_unit_zero (S := S32x4096) hz2] <;> rfl
    iexact HO

/-! ## The value, as a function of the arrays -/

/-- Hidden columns `512 n … 512 n + 511` of the first weight. -/
def w1Blk (w : Vec F S4096x8192 .f32) (n : Fin 16) : Vec F S4096x512 .f32 :=
  fun j => w (ValueIdx.ix2 (n0 := 4096) (n1 := 8192) (j 0) ⟨512 * n.val + (j 1).val, by have h : (j 1).val < 512 := (j 1).isLt; omega⟩)
/-- Hidden columns `512 n … 512 n + 511` of the first bias. -/
def b1Blk (w : Vec F S1x8192 .f32) (n : Fin 16) : Vec F S1x512 .f32 :=
  fun j => w (ValueIdx.ix2 (n0 := 1) (n1 := 8192) (j 0) ⟨512 * n.val + (j 1).val, by have h : (j 1).val < 512 := (j 1).isLt; omega⟩)
/-- Rows `512 n … 512 n + 511` of the second weight. -/
def w2Blk (w : Vec F S8192x2 .f32) (n : Fin 16) : Vec F S512x2 .f32 :=
  fun j => w (ValueIdx.ix2 (n0 := 8192) (n1 := 2) ⟨512 * n.val + (j 0).val, by have h : (j 0).val < 512 := (j 0).isLt; omega⟩ (j 1))

/-- The accumulator after `n` hidden blocks, from the pooled embeddings `p`. -/
def acc (p : Vec F S32x4096 .f32) (w1 : Vec F S4096x8192 .f32) (b1 : Vec F S1x8192 .f32) (w2 : Vec F S8192x2 .f32) : ℕ → Vec F S32x2 .f32
  | 0 => k1_pay2
  | n + 1 => if h : n < 16 then k1_pay3 p (w1Blk w1 ⟨n, h⟩) (b1Blk b1 ⟨n, h⟩) (acc p w1 b1 w2 n) (w2Blk w2 ⟨n, h⟩) else acc p w1 b1 w2 n

/-- The kernel's result. -/
def mlp (x : Vec F S32x1024 .f32) (emb : Vec F S1000x4096 .f32) (w1 : Vec F S4096x8192 .f32) (b1 : Vec F S1x8192 .f32)
    (w2 : Vec F S8192x2 .f32) (b2 : Vec F S1x2 .f32) : Vec F S32x2 .f32 :=
  k1_pay4 (acc (pool x emb) w1 b1 w2 16) b2

/-! ## The pipeline's proof data, at the arrays' contents `V` when the region is entered -/

section Data

variable (V : Valuation τ sig (Elt F))

/-- The counts, at their shape. -/
abbrev aX : Vec F S32x1024 .f32 := V (Proc.devRef .tc main_v0)
/-- The embedding. -/
abbrev aE : Vec F S1000x4096 .f32 := V (Proc.devRef .tc main_arg1)
/-- The first weight. -/
abbrev aW1 : Vec F S4096x8192 .f32 := V (Proc.devRef .tc main_arg2)
/-- The first bias, as one row. -/
abbrev aB1 : Vec F S1x8192 .f32 := V (Proc.devRef .tc main_v1)
/-- The second weight. -/
abbrev aW2 : Vec F S8192x2 .f32 := V (Proc.devRef .tc main_arg4)
/-- The second bias, as one row. -/
abbrev aB2 : Vec F S1x2 .f32 := V (Proc.devRef .tc main_v2)

/-- The pooled embeddings, of the arrays. -/
abbrev poolV : Vec F S32x4096 .f32 := pool (aX V) (aE V)
/-- The accumulator after `n` hidden blocks, of the arrays. -/
abbrev accV (n : ℕ) : Vec F S32x2 .f32 := acc (poolV V) (aW1 V) (aB1 V) (aW2 V) n
/-- The kernel's result, of the arrays. -/
abbrev mlpV : Vec F S32x2 .f32 := mlp (aX V) (aE V) (aW1 V) (aB1 V) (aW2 V) (aB2 V)

/-- A window's block at a point, as the fetch stages it. -/
abbrev iblk (w : Fin cfg1.W) (t : Fin cfg1.N) : ((cfg1.win w).xblock (cfg1.grid.coords t)).Idx → Elt F (cfg1.win w).elt :=
  ((cfg1.win w).blk t).view.read (Elt F) (V (Proc.devRef .tc (arrRef spec1 w)))

/-- The scratches before point `n`: at anything before the first; then the pooled embeddings and the sum so far. -/
def inv (c : Dev nD) (n : ℕ) : sProp 𝕄 :=
  iprop(∃ f8 : Vec F S32x4096 .f32, ∃ f9 : Vec F S32x2 .f32, ⌜n ≠ 0 → f8 = poolV V ∧ f9 = accV V n⌝
    ∗ (((c : Thread nD τ).loc cc1_scratch0) ↦{fullShare} f8) ∗ (((c : Thread nD τ).loc cc1_scratch1) ↦{fullShare} f9))

/-- The proof data: every input window keeps its block, the output's buffer holds the result after the last point. -/
def dat (c : Dev nD) : Dat τ (Elt F) (HIx 1) ℕ UU ℕ cfg1 c where
  A w := V (Proc.devRef .tc (arrRef spec1 w))
  after w t := match w with
    | ⟨0, _⟩ => iblk V 0 t
    | ⟨1, _⟩ => iblk V 1 t
    | ⟨2, _⟩ => iblk V 2 t
    | ⟨3, _⟩ => iblk V 3 t
    | ⟨4, _⟩ => iblk V 4 t
    | ⟨5, _⟩ => iblk V 5 t
    | ⟨6, _⟩ => mlpV V
  Φ t := inv V c t.val
  q _ := fullShare
  owed _ := 0

/-- At every point the body finds the counts as fetched. -/
theorem before_0 (c : Dev nD) (t : Fin cfg1.N) (d) : (dat V c).before 0 t d = iblk V 0 t :=
  (dat V c).before_in_eq_fetched 0 rfl (fun _ => rfl) (fun _ _ _ => rfl) (fun _ => rfl) t d
/-- At every point the body finds the embedding as fetched. -/
theorem before_1 (c : Dev nD) (t : Fin cfg1.N) (d) : (dat V c).before 1 t d = iblk V 1 t :=
  (dat V c).before_in_eq_fetched 1 rfl (fun _ => rfl) (fun _ _ _ => rfl) (fun _ => rfl) t d
/-- At every point the body finds the first weight's block as fetched. -/
theorem before_2 (c : Dev nD) (t : Fin cfg1.N) (d) : (dat V c).before 2 t d = iblk V 2 t :=
  (dat V c).before_in_eq_fetched 2 rfl (fun _ => rfl) (fun _ _ _ => rfl) (fun _ => rfl) t d
/-- At every point the body finds the first bias's block as fetched. -/
theorem before_3 (c : Dev nD) (t : Fin cfg1.N) (d) : (dat V c).before 3 t d = iblk V 3 t :=
  (dat V c).before_in_eq_fetched 3 rfl (fun _ => rfl) (fun _ _ _ => rfl) (fun _ => rfl) t d
/-- At every point the body finds the second weight's block as fetched. -/
theorem before_4 (c : Dev nD) (t : Fin cfg1.N) (d) : (dat V c).before 4 t d = iblk V 4 t :=
  (dat V c).before_in_eq_fetched 4 rfl (fun _ => rfl) (fun _ _ _ => rfl) (fun _ => rfl) t d
/-- At every point the body finds the second bias as fetched. -/
theorem before_5 (c : Dev nD) (t : Fin cfg1.N) (d) : (dat V c).before 5 t d = iblk V 5 t :=
  (dat V c).before_in_eq_fetched 5 rfl (fun _ => rfl) (fun _ _ _ => rfl) (fun _ => rfl) t d

/-- The point's coordinate is its number. -/
theorem coords_val (t : Fin grid1.N) : (grid1.coords t 0).val = t.val := by revert t; decide

/-- The body pools and zeroes the accumulator exactly at the first point. -/
theorem first_iff (t : Fin grid1.N) : first (grid1.coords t) = 1#1 ↔ t.val = 0 := by revert t; decide
/-- The body writes the result exactly at the last point. -/
theorem last_iff (t : Fin grid1.N) : k1_cond2 (grid1.coords t) = 1#1 ↔ t.val = 15 := by revert t; decide

/-- The counts' block is the whole array. -/
theorem iblk_0 (t : Fin cfg1.N) : (iblk V 0 t : Vec F S32x1024 .f32) = aX V := by
  funext j; unfold iblk; rw [View.read_apply]; show V _ _ = V _ _; congr 1
  funext a; apply Fin.ext
  match a with
  | ⟨0, _⟩ => show 0 * 32 + 1 * (j 0).val = (j 0).val; omega
  | ⟨1, _⟩ => show 0 * 1024 + 1 * (j 1).val = (j 1).val; omega
/-- The embedding's block is the whole array. -/
theorem iblk_1 (t : Fin cfg1.N) : (iblk V 1 t : Vec F S1000x4096 .f32) = aE V := by
  funext j; unfold iblk; rw [View.read_apply]; show V _ _ = V _ _; congr 1
  funext a; apply Fin.ext
  match a with
  | ⟨0, _⟩ => show 0 * 1000 + 1 * (j 0).val = (j 0).val; omega
  | ⟨1, _⟩ => show 0 * 4096 + 1 * (j 1).val = (j 1).val; omega
/-- The second bias's block is the whole array. -/
theorem iblk_5 (t : Fin cfg1.N) : (iblk V 5 t : Vec F S1x2 .f32) = aB2 V := by
  funext j; unfold iblk; rw [View.read_apply]; show V _ _ = V _ _; congr 1
  funext a; apply Fin.ext
  match a with
  | ⟨0, _⟩ => show 0 * 1 + 1 * (j 0).val = (j 0).val; omega
  | ⟨1, _⟩ => show 0 * 2 + 1 * (j 1).val = (j 1).val; omega

/-- At point `t` the first weight's block is the `t`-th along its columns. -/
theorem index2 (t : Fin grid1.N) : win1_2.index t 0 = 0 ∧ win1_2.index t 1 = t.val := by revert t; decide
/-- At point `t` the first bias's block is the `t`-th along its columns. -/
theorem index3 (t : Fin grid1.N) : win1_3.index t 0 = 0 ∧ win1_3.index t 1 = t.val := by revert t; decide
/-- At point `t` the second weight's block is the `t`-th along its rows. -/
theorem index4 (t : Fin grid1.N) : win1_4.index t 0 = t.val ∧ win1_4.index t 1 = 0 := by revert t; decide

/-- The first weight's block at a point is that block of columns. -/
theorem iblk_2 (t : Fin cfg1.N) : (iblk V 2 t : Vec F S4096x512 .f32) = w1Blk (aW1 V) (t.cast N_1) := by
  funext j; unfold iblk w1Blk; rw [View.read_apply]; show V _ _ = V _ _; congr 1
  funext a; apply Fin.ext
  match a with
  | ⟨0, _⟩ => show win1_2.index t 0 * 4096 + 1 * (j 0).val = (j 0).val; rw [(index2 t).1]; omega
  | ⟨1, _⟩ => show win1_2.index t 1 * 512 + 1 * (j 1).val = 512 * t.val + (j 1).val; rw [(index2 t).2]; omega
/-- The first bias's block at a point is that block of columns. -/
theorem iblk_3 (t : Fin cfg1.N) : (iblk V 3 t : Vec F S1x512 .f32) = b1Blk (aB1 V) (t.cast N_1) := by
  funext j; unfold iblk b1Blk; rw [View.read_apply]; show V _ _ = V _ _; congr 1
  funext a; apply Fin.ext
  match a with
  | ⟨0, _⟩ => show win1_3.index t 0 * 1 + 1 * (j 0).val = (j 0).val; rw [(index3 t).1]; omega
  | ⟨1, _⟩ => show win1_3.index t 1 * 512 + 1 * (j 1).val = 512 * t.val + (j 1).val; rw [(index3 t).2]; omega
/-- The second weight's block at a point is that block of rows. -/
theorem iblk_4 (t : Fin cfg1.N) : (iblk V 4 t : Vec F S512x2 .f32) = w2Blk (aW2 V) (t.cast N_1) := by
  funext j; unfold iblk w2Blk; rw [View.read_apply]; show V _ _ = V _ _; congr 1
  funext a; apply Fin.ext
  match a with
  | ⟨0, _⟩ => show win1_4.index t 0 * 512 + 1 * (j 0).val = 512 * t.val + (j 0).val; rw [(index4 t).1]; omega
  | ⟨1, _⟩ => show win1_4.index t 1 * 2 + 1 * (j 1).val = (j 1).val; rw [(index4 t).2]; omega

/-- One more hidden block added. -/
theorem acc_step (t : Fin cfg1.N) : accV V (t.val + 1)
    = k1_pay3 (poolV V) (w1Blk (aW1 V) (t.cast N_1)) (b1Blk (aB1 V) (t.cast N_1)) (accV V t.val) (w2Blk (aW2 V) (t.cast N_1)) := by
  have h : t.val < 16 := t.isLt.trans_eq N_1
  show (if h : t.val < 16 then _ else _) = _
  rw [dif_pos h]; rfl

/-- What the body leaves in the output's buffer is what the pipeline asks for: the result at the last point, what was
    there at the others. -/
theorem out_left (c : Dev nD) (t : Fin cfg1.N) (d : (cfg1.win 6).block.Idx → Elt F (cfg1.win 6).elt) :
    owns (c : Thread nD τ) (st1_6 t) fullShare
        (if k1_cond2 (grid1.coords t) = 1#1 then k1_pay4 (accV V (t.val + 1)) (aB2 V) else (dat V c).before 6 t d)
      ⊢ ((dat V c).leavesExact 6 t : sProp 𝕄) := by
  by_cases h : t.val = 15
  · rw [if_pos ((last_iff t).mpr h), h]
    have hi : cfg1.idle 6 (cfg1.grid.coords t) = false := by
      show (!(k1_cond2 (grid1.coords t) == 1#1)) = false
      rw [(last_iff t).mpr h]; rfl
    unfold Dat.leavesExact; rw [hi]; exact .rfl
  · have hl : ¬k1_cond2 (grid1.coords t) = 1#1 := fun e => h ((last_iff t).mp e)
    rw [if_neg hl, (dat V c).leavesExact_idle 6 t]
    · iintro H; iexists d; iexact H
    · show (!(k1_cond2 (grid1.coords t) == 1#1)) = true
      rw [beq_eq_false_iff_ne.mpr hl]; rfl
    · rw [← Bool.not_eq_true, flush1_6 t]
      have : t.val < 16 := t.isLt.trans_eq N_1
      omega

/-- The body at every point, from the invariant and the windows' buffers to them at the next. -/
theorem body_obligation (c : Dev nD) : BodyObligation (dat V c) (defs₀ (F := F)) 𝒱₀ none Set.univ := fun t => by
  rw [bigSep_W1, bigSep_W1]
  simp only [before_0, before_1, before_2, before_3, before_4, before_5]
  rw [show (dat V c).Φ t.castSucc = inv V c t.val from rfl, show (dat V c).Φ t.succ = inv V c (t.val + 1) from rfl]
  unfold inv Dat.owesAt Pipeline.owesWithin
  rw [show (dat V c).owed t.castSucc = 0 from rfl, show (dat V c).owed t.succ = 0 from rfl]
  iintro ⟨⟨%f8, %f9, %hs, H8, H9⟩, ⟨%W, %hW, HO⟩, ⟨%d0, H0⟩, ⟨%d1, H1⟩, ⟨%d2, H2⟩, ⟨%d3, H3⟩, ⟨%d4, H4⟩, ⟨%d5, H5⟩, ⟨%d6, H6⟩⟩
  have hP : poolV V = if first (grid1.coords t) = 1#1 then pool (iblk V 0 t) (iblk V 1 t) else f8 := by
    rw [iblk_0, iblk_1]
    by_cases h : t.val = 0
    · rw [if_pos ((first_iff t).mpr h)]
    · rw [if_neg fun e => h ((first_iff t).mp e), (hs h).1]
  have hA : accV V t.val = if first (grid1.coords t) = 1#1 then k1_pay2 else f9 := by
    by_cases h : t.val = 0
    · rw [if_pos ((first_iff t).mpr h), h]; rfl
    · rw [if_neg fun e => h ((first_iff t).mp e), (hs h).2]
  have hN : accV V (t.val + 1) = k1_pay3 (poolV V) (iblk V 2 t) (iblk V 3 t) (accV V t.val) (iblk V 4 t) := by
    rw [acc_step, iblk_2, iblk_3, iblk_4]
  have hO : (if k1_cond2 (grid1.coords t) = 1#1 then k1_pay4 (accV V (t.val + 1)) (aB2 V) else (dat V c).before 6 t d6)
      = if k1_cond2 (grid1.coords t) = 1#1 then k1_pay4 (accV V (t.val + 1)) (iblk V 5 t) else (dat V c).before 6 t d6 := by
    rw [iblk_5]
  iapply (kernelRun c (grid1.coords t) (st1_0 t) (hstage1_0 ((cfg1.slots t 0).cast nbuf1_0)) (st1_1 t) (hstage1_1 ((cfg1.slots t 1).cast nbuf1_1))
    (st1_2 t) (hstage1_2 ((cfg1.slots t 2).cast nbuf1_2)) (st1_3 t) (hstage1_3 ((cfg1.slots t 3).cast nbuf1_3))
    (st1_4 t) (hstage1_4 ((cfg1.slots t 4).cast nbuf1_4)) (st1_5 t) (hstage1_5 ((cfg1.slots t 5).cast nbuf1_5))
    (st1_6 t) (hstage1_6 ((cfg1.slots t 6).cast nbuf1_6)) (Memref.whole cc1_scratch0) (Memref.isWhole_whole _)
    (Memref.whole cc1_scratch1) (Memref.isWhole_whole _) _ _ _ _ _ _ _ f8 f9 _ _ _ _ hP hA hN hO W)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H8]; · iapply (Entails.of_eq (owns_whole (c : Thread nD τ) cc1_scratch0 fullShare f8).symm); iexact H8
  isplitl [H9]; · iapply (Entails.of_eq (owns_whole (c : Thread nD τ) cc1_scratch1 fullShare f9).symm); iexact H9
  isplitl [HO]; · iexact HO
  iintro ⟨H0, H1, H2, H3, H4, H5, H6, H8, H9, HO⟩
  isplitl [H8 H9]
  · iexists (poolV V), (accV V (t.val + 1))
    isplitr; · ipureintro; exact fun _ => ⟨rfl, rfl⟩
    isplitl [H8]; · iapply (Entails.of_eq (owns_whole (c : Thread nD τ) cc1_scratch0 fullShare (poolV V))); iexact H8
    iapply (Entails.of_eq (owns_whole (c : Thread nD τ) cc1_scratch1 fullShare (accV V (t.val + 1)))); iexact H9
  isplitl [HO]
  · iexists W; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  iapply (out_left V c t d6); iexact H6

/-- The one write-back, at the last point, writes the result. -/
theorem flushed_eq (c : Dev nD) (t : Fin cfg1.N) :
    (dat V c).flushed 6 t = ((cfg1.win 6).blk t).view.read (Elt F) (mlpV V) := by
  show (cfg1.win 6).cut (grid1.coords t) ((dat V c).after 6 t) = _
  have hz' : (fun a => win1_6.index t a * main_v3.ty.shape.size a) = fun _ => 0 := funext fun a => by
    match a with
    | ⟨0, _⟩ => rfl
    | ⟨1, _⟩ => rfl
  exact (Memref.read_access_unit_zero (Elt F) main_v3 hz' (fun a => by rw [congrFun hz' a]; simp) (mlpV V)).symm

/-- So the result array ends holding it. -/
theorem final_out (c : Dev nD) : (dat V c).arrAt 6 cfg1.N = mlpV V :=
  (dat V c).arrAt_eq_of_cover 6 (mlpV V) (fun t _ => flushed_eq V c t) fun i =>
    ⟨t1_15, (flush1_6 t1_15).mpr rfl, by
      show i ∈ ((View.whole main_v3).slice (win1_6.rect t1_15)).set
      rw [View.set_slice_whole, Rect.mem_set_unit]
      intro a
      have h0 : (i 0 : Nat) < 32 := (i 0).isLt
      have h1 : (i 1 : Nat) < 2 := (i 1).isLt
      match a with
      | ⟨0, _⟩ => exact ⟨Nat.zero_le _, by show (i 0 : Nat) < 0 * 32 + 32; omega⟩
      | ⟨1, _⟩ => exact ⟨Nat.zero_le _, by show (i 1 : Nat) < 0 * 2 + 2; omega⟩⟩

end Data

end Cert.Proof.Pooled

end
-- ==== Proof.Launch.lean ====
/-
  The launch: the SparseCore call deals the rows to the tiles and gathers the counts, the TensorCore reshapes the biases
  and runs the pipeline, and the program ends with its arguments unchanged, the result the network's value at the
  counts, and every semaphore at zero.
-/
module

public import proofs.«01_k».proof.Proof.Tile
public import proofs.«01_k».proof.Proof.Mlp
public import Idealize.ShloMosaic.Lib.Pipeline.RegionArraysS

@[expose] public section

noncomputable section

namespace Cert.Proof.Pooled

open Cert.KernelIdeal Cert.KernelIdeal.Gen
open Idealize.ShloMosaic
open Idealize.ShloMosaic.SparseCore (S V T)
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline

variable {F : FTy → Type} [FloatOps F]

local notation "𝕄" => MT nD τ sig (HIx 1) (Elt F) ℕ UU ℕ

variable (m : (ℓ : Loc nD τ sig) → Buf (Elt F) ℓ) (ρ : Dev nD → PrngReg)

/-! ## What the handshakes carry -/

/-- A SparseCore's rows of the indices and of the counts, before the call and after it. -/
abbrev coreIn (d : Dev nD) (c : ℕ) : sProp 𝕄 :=
  iprop((xLoc d ↦[xCore c]{fullShare} m (xLoc d)) ∗ cLoc d ↦[cCore c]{fullShare} m (cLoc d))
/-- What a SparseCore hands back: its rows of the indices as they were, and its rows of the counts filled. -/
abbrev coreOut (d : Dev nD) (c : ℕ) : sProp 𝕄 :=
  iprop((xLoc d ↦[xCore c]{fullShare} m (xLoc d)) ∗ cLoc d ↦[cCore c]{fullShare} counts (m (xLoc d)))

/-- Each SparseCore gets its rows and returns them with the counts in place; each tile likewise its row. -/
def P : (K (F := F)).Pay (nD := nD) (Val := Elt F) (Name := ℕ) (U := UU) where
  st q d c := match q with | 0 => coreIn m d c.val
  dn q d c := match q with | 0 => coreOut m d c.val
  go q d c i := match q with | 0 => tileIn m d (2 * i.val + c.val)
  td q d c i := match q with | 0 => tileOut m d (2 * i.val + c.val)
  x _ _ := iprop(emp)

/-- What the handshakes carry can be put into invariants. -/
instance P_storable : (P m).IsStorable where
  st q d c := match q with | 0 => (inferInstance : BI.Storable (upEmb : UEmb _ 𝕄) (coreIn m d c.val))
  dn q d c := match q with | 0 => (inferInstance : BI.Storable (upEmb : UEmb _ 𝕄) (coreOut m d c.val))
  go q d c i := match q with | 0 => (by unfold P tileIn; infer_instance)
  td q d c i := match q with | 0 => (by unfold P tileOut; infer_instance)

/-! ## A tile's task -/

/-- The tile at SparseCore `c`, subcore `s`, as grid coordinates. -/
def coordsV (c : Fin (grid0.bound 0)) (s : Fin (grid0.bound 1)) : grid0.Coords
  | 0 => c
  | 1 => s
  | ⟨_ + 2, h⟩ => absurd h (Nat.not_lt.2 (Nat.le_add_left _ _))

/-- What tile `s` of SparseCore `c` runs is the histogram kernel, on the whole arrays and its own scratches. -/
theorem defs₀_vector (c : Fin τ.nSC) (s : Fin τ.nSub) :
    defs₀ (F := F) (.scVector c s) 0 ()
      = SparseCore.onTile hcore0 hsub0 (fun c s => cc0_sc_histogram (coordsV c s)
          (Memref.whole main_arg0_scv) (Memref.isWhole_whole _) (Memref.whole main_v0_scv) (Memref.isWhole_whole _)
          (Memref.whole cc0_scratch0) (Memref.isWhole_whole _) (Memref.whole cc0_scratch1) (Memref.isWhole_whole _)
          (Memref.whole cc0_scratch2) (Memref.isWhole_whole _) cc0_scoped0 cc0_scoped1) ⟨⟩ c s := rfl

/-- A tile that waited only on its own transfers has recorded no more than the launch allows. -/
theorem obl_post {A B C : sProp 𝕄} {thr : Thread nD τ} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 1024 in
/-- Every tile's task meets the launch's demand. -/
theorem tileObl (hpre : InRange m) : (K (F := F)).TileObl (D (F := F)) 𝒱P (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]
  simp only [SparseCore.onTile, hc, and_self, ↓reduceDIte]
  exact (tile_body m d (coordsV ⟨_, hc.1⟩ ⟨_, hc.2⟩) hpre O W hO).trans (wp_mono frame _ _ fun _ => obl_post)

/-! ## Dealing the rows -/

/-- A SparseCore's rows of the indices are those of its sixteen tiles. -/
theorem xCore_eq (c : Fin 2) : xCore c.val = Finset.univ.biUnion fun i : Fin 16 => xRow (2 * i.val + c.val) := by
  ext j
  have hj : (j 0 : Nat) < 32 := (j 0).isLt
  simp only [xCore, xRow, Finset.mem_filter, Finset.mem_univ, true_and, Finset.mem_biUnion]
  exact ⟨fun h => ⟨⟨(j 0).val / 2, by omega⟩, by show (j 0).val = 2 * ((j 0).val / 2) + c.val; omega⟩, fun ⟨i, h⟩ => by omega⟩

/-- A SparseCore's rows of the counts are those of its sixteen tiles. -/
theorem cCore_eq (c : Fin 2) : cCore c.val = Finset.univ.biUnion fun i : Fin 16 => cRow (2 * i.val + c.val) := by
  ext j
  have hj : (j 0 : Nat) < 32 := (j 0).isLt
  simp only [cCore, cRow, Finset.mem_filter, Finset.mem_univ, true_and, Finset.mem_biUnion]
  exact ⟨fun h => ⟨⟨(j 0).val / 2, by omega⟩, by show (j 0).val = 2 * ((j 0).val / 2) + c.val; omega⟩, fun ⟨i, h⟩ => by omega⟩

/-- Different rows of the indices share no element. -/
theorem xRow_disj {a b : ℕ} (h : a ≠ b) : Disjoint (xRow a) (xRow b) :=
  Finset.disjoint_left.mpr fun j ha hb => h ((Finset.mem_filter.mp ha).2.symm.trans (Finset.mem_filter.mp hb).2)
/-- Different rows of the counts share no element. -/
theorem cRow_disj {a b : ℕ} (h : a ≠ b) : Disjoint (cRow a) (cRow b) :=
  Finset.disjoint_left.mpr fun j ha hb => h ((Finset.mem_filter.mp ha).2.symm.trans (Finset.mem_filter.mp hb).2)

/-- A SparseCore's rows are its tiles' rows, of the indices and of the counts, whatever they hold. -/
theorem rows_split (d : Dev nD) (c : Fin 2) (f : Buf (Elt F) (xLoc d)) (g : Buf (Elt F) (cLoc d)) :
    (iprop((xLoc d ↦[xCore c.val]{fullShare} f) ∗ cLoc d ↦[cCore c.val]{fullShare} g) : sProp 𝕄)
      = bigSep Finset.univ fun i : Fin 16 => iprop((xLoc d ↦[xRow (2 * i.val + c.val)]{fullShare} f) ∗ cLoc d ↦[cRow (2 * i.val + c.val)]{fullShare} g) := by
  rw [bigSep_sep', xCore_eq, cCore_eq,
    pointsTo_biUnion _ _ fun i _ j _ h => xRow_disj fun e => h (Fin.ext (by omega)),
    pointsTo_biUnion _ _ fun i _ j _ h => cRow_disj fun e => h (Fin.ext (by omega))]

/-- A SparseCore's share splits into its tiles' shares, and what the tiles hand back makes up what it hands back. -/
theorem vecSplit : (K (F := F)).VecSplit' (P m) 0 := by
  intro d c
  change coreIn m d c.val ⊢ |={Set.univ}=> iprop((bigSep Finset.univ fun i : Fin 16 => tileIn m d (2 * i.val + c.val))
    ∗ ((bigSep Finset.univ fun i : Fin 16 => tileOut m d (2 * i.val + c.val)) -∗ coreOut m d c.val))
  unfold coreIn coreOut tileIn tileOut
  rw [rows_split d (show Fin 2 from c), rows_split d (show Fin 2 from c)]
  iintro H
  imodintro
  isplitl [H]; · iexact H
  iintro H; iexact H

/-- The two SparseCores' rows together are everything. -/
theorem cores_split (d : Dev nD) (f : Buf (Elt F) (xLoc d)) (g : Buf (Elt F) (cLoc d)) :
    (bigSep (Finset.univ : Finset (Fin 2)) fun c => iprop((xLoc d ↦[xCore c.val]{fullShare} f) ∗ cLoc d ↦[cCore c.val]{fullShare} g) : sProp 𝕄)
      = iprop((xLoc d ↦{fullShare} f) ∗ cLoc d ↦{fullShare} g) := by
  have hx : (Finset.univ : Finset S32x2048.Idx) = Finset.univ.biUnion fun c : Fin 2 => xCore c.val := by
    ext j; simp only [xCore, Finset.mem_filter, Finset.mem_univ, true_and, Finset.mem_biUnion]
    exact ⟨fun _ => ⟨⟨(j 0).val % 2, by omega⟩, rfl⟩, fun _ => trivial⟩
  have hc : (Finset.univ : Finset S32x1024.Idx) = Finset.univ.biUnion fun c : Fin 2 => cCore c.val := by
    ext j; simp only [cCore, Finset.mem_filter, Finset.mem_univ, true_and, Finset.mem_biUnion]
    exact ⟨fun _ => ⟨⟨(j 0).val % 2, by omega⟩, rfl⟩, fun _ => trivial⟩
  have dx : ∀ a b : Fin 2, a ≠ b → Disjoint (xCore a.val) (xCore b.val) := fun a b h => Finset.disjoint_left.mpr fun j ha hb =>
    h (Fin.ext ((Finset.mem_filter.mp ha).2.symm.trans (Finset.mem_filter.mp hb).2))
  have dc : ∀ a b : Fin 2, a ≠ b → Disjoint (cCore a.val) (cCore b.val) := fun a b h => Finset.disjoint_left.mpr fun j ha hb =>
    h (Fin.ext ((Finset.mem_filter.mp ha).2.symm.trans (Finset.mem_filter.mp hb).2))
  have ex : (xLoc d ↦{fullShare} f : sProp 𝕄) = bigSep (Finset.univ : Finset (Fin 2)) fun c => (xLoc d ↦[xCore c.val]{fullShare} f : sProp 𝕄) :=
    (congrArg (fun I => (xLoc d ↦[I]{fullShare} f : sProp 𝕄)) hx).trans (pointsTo_biUnion _ _ fun i _ j _ h => dx i j h)
  have ec : (cLoc d ↦{fullShare} g : sProp 𝕄) = bigSep (Finset.univ : Finset (Fin 2)) fun c => (cLoc d ↦[cCore c.val]{fullShare} g : sProp 𝕄) :=
    (congrArg (fun I => (cLoc d ↦[I]{fullShare} g : sProp 𝕄)) hc).trans (pointsTo_biUnion _ _ fun i _ j _ h => dc i j h)
  rw [bigSep_sep', ← ex, ← ec]

/-- What the SparseCores take, together, is the whole of the indices and of the counts. -/
theorem st0_eq (d : Dev nD) : (bigSep Finset.univ fun c : Fin ((K (F := F)).nCore 0) => (P m).st 0 d c)
    = iprop((xLoc d ↦{fullShare} m (xLoc d)) ∗ cLoc d ↦{fullShare} m (cLoc d)) := cores_split d _ _
/-- What they hand back, together, is the indices unchanged and all the counts. -/
theorem dn0_eq (d : Dev nD) : (bigSep Finset.univ fun c : Fin ((K (F := F)).nCore 0) => (P m).dn 0 d c)
    = iprop((xLoc d ↦{fullShare} m (xLoc d)) ∗ cLoc d ↦{fullShare} counts (m (xLoc d))) := cores_split d _ _

/-! ## The launch's ghost state -/

/-- The pipeline's configuration is admissible. -/
abbrev adm : (p : Fin 1) → (pcfgs (F := F) p).Adm := fun p => (cfgs p).toPCfg_adm

/-- The pipeline's staging cells are distinct. -/
theorem pin_inj : Function.Injective (cellOf (nD := nD) (τ := τ) (Pipeline.pin (pcfgs (F := F)) adm)) := cellOf_inj

/-- The handshakes' rounds and the pipeline's; the tiles' own counters start at nothing. -/
def u₀ : UU := (initOf (K (F := F)).hsCells (K (F := F)).hsToks,
  (initOf (Pipeline.cells (Pipeline.pin (pcfgs (F := F)) adm) pin_inj) (Pipeline.launchToks (Pipeline.pin (pcfgs (F := F)) adm) pin_inj), 1))

/-- What the launch gives the TensorCore of `d` beside the handshakes: its pipeline's ghost state. -/
abbrev G (d : Dev nD) : sProp 𝕄 :=
  iprop((bigSep Finset.univ fun p : Fin 1 => cellsGhost (Pipeline.pin (pcfgs (F := F)) adm) EP p d)
    ∗ bigSep Finset.univ fun p : Fin 1 => toksInit (Pipeline.pin (pcfgs (F := F)) adm) EP p d)

omit [FloatOps F] in
/-- The pipeline's rounds, out of what lies right of the handshakes'. -/
theorem own_pair_EP (a : UP) (b : Counters) :
    (BI.own ((embR : Emb (UP × Counters) 𝕄) (a, b)) : sProp 𝕄) ⊢ iprop(BI.own (EP (F := F) a) ∗ BI.own (((Emb.inr : Emb Counters (UP × Counters)).trans (embR : Emb (UP × Counters) 𝕄)) b)) := by
  unfold EP; exact own_pair_emb (embR : Emb (UP × Counters) 𝕄) a b

omit [FloatOps F] in
/-- Any number of empty resources is the empty one. -/
theorem emps {I : Type} (s : Finset I) : (bigSep s fun _ => iprop(emp)) = (iprop(emp) : sProp 𝕄) := bigSep_emp_const s

/-- The initial ghost state gives the handshakes' rounds, the pipeline's for each device, and nothing for the tiles. -/
theorem hu₀ : (ownU (u₀ (F := F)) : sProp 𝕄)
    ⊢ |={Set.univ}=> iprop(BI.own (EH (initOf (K (F := F)).hsCells (K (F := F)).hsToks)) ∗ bigSep Finset.univ (G (F := F))
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H2 := (own_pair_EP _ _) $$ HR
  icases H2 with ⟨HP, -⟩
  ihave Hf := (Pipeline.fund_ghost (Pipeline.pin (pcfgs (F := F)) adm) EP pin_inj) $$ HP
  imod Hf
  imodintro
  isplitl [HH]; · iexact HH
  isplitl [Hf]
  · unfold G; rw [bigSep_sep']; iexact Hf
  unfold P; dsimp only
  rw [show (bigSep Finset.univ fun _ : Thread nD τ => bigSep Finset.univ fun _ : Fin 1 => (iprop(emp) : sProp 𝕄)) = iprop(emp) from by
    rw [bigSep_congr fun _ _ => emps _, emps]]
  iempintro

/-! ## The arrays on the TensorCore -/

/-- The unscoped buffers: the arguments, the counts, the reshaped biases, the result. -/
abbrev ucRefs : Finset (DevRef τ sig) := (StableHlo.tcRefs τ sig).filter fun b => ¬ b.isScoped

/-- The arrays a host operation touches are unscoped. -/
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

/-- A TensorCore array, as a buffer of its device. -/
abbrev r (b : Ref sig .tc) : DevRef τ sig := Proc.devRef .tc b

/-- The first bias as a one-row matrix. -/
abbrev opB1 : HloOp τ sig (Elt F) := StableHlo.reshape main_arg3 main_v1 (rfl : (.f32 : EltTy) = .f32) shapeCasts_S8192_S1x8192
/-- The second bias as a one-row matrix. -/
abbrev opB2 : HloOp τ sig (Elt F) := StableHlo.reshape main_arg5 main_v2 (rfl : (.f32 : EltTy) = .f32) shapeCasts_S2_S1x2

/-- The arrays at the launch. -/
def V0 (d : Dev nD) : Valuation τ sig (Elt F) := fun b => m (d, b)
/-- The arrays after the SparseCore call: the counts are in place. -/
def V1 (d : Dev nD) : Valuation τ sig (Elt F) := Function.update (V0 m d) (r main_v0) (counts (m (xLoc d)))
/-- The arrays after the first bias is reshaped. -/
def V2 (d : Dev nD) : Valuation τ sig (Elt F) := (opB1 (F := F)).result (V1 m d)
/-- The arrays after the second bias is reshaped, as the pipeline finds them. -/
def V3 (d : Dev nD) : Valuation τ sig (Elt F) := (opB2 (F := F)).result (V2 m d)

/-- The pipeline's proof data on the arrays as it finds them. -/
abbrev pdats : (p : Fin 1) → (c : Dev nD) → Dat τ (Elt F) (HIx 1) ℕ UU ℕ (Pipeline.pin (pcfgs (F := F)) adm p) c :=
  fun _ c => dat (V3 m c) c

/-- The arrays as the pipeline leaves them. -/
def V4 (d : Dev nD) : Valuation τ sig (Elt F) := afterRegion (pdats m 0 d) (V3 m d)

omit [FloatOps F] in
/-- The unscoped buffers at the launch are the held arrays. -/
theorem unscoped_held (d : Dev nD) (W : Valuation τ sig (Elt F)) : (unscopedBufs d (fun b => W (r b)) : sProp 𝕄) = held (T d) ucRefs W := by
  unfold unscopedBufs StableHlo.held ucRefs StableHlo.tcRefs; rw [Finset.filter_map, bigSep_map]; rfl

/-- The indices are among the held arrays. -/
theorem mem_x : r main_arg0 ∈ ucRefs := by decide
/-- So are the counts. -/
theorem mem_c : r main_v0 ∈ ucRefs.erase (r main_arg0) := by decide

omit [FloatOps F] in
/-- The indices and the counts, out of the arrays. -/
theorem held_xc (d : Dev nD) (W : Valuation τ sig (Elt F)) :
    (held (T d) ucRefs W : sProp 𝕄) = iprop((xLoc d ↦{fullShare} W (r main_arg0)) ∗ (cLoc d ↦{fullShare} W (r main_v0))
      ∗ held (T d) ((ucRefs.erase (r main_arg0)).erase (r main_v0)) W) := by
  unfold held
  rw [SparseCore.bigSep_erase' mem_x, SparseCore.bigSep_erase' mem_c]

/-- After the SparseCore call the counts array holds the counts of the indices; -/
theorem V1_c (d : Dev nD) : V1 m d (r main_v0) = counts (m (xLoc d)) := Function.update_self _ _ _
/-- every other array is as launched. -/
theorem V1_of_ne (d : Dev nD) {b : DevRef τ sig} (h : b ≠ r main_v0) : V1 m d b = m (d, b) := Function.update_of_ne h _ _

/-- The arrays after the SparseCore call are the indices, the counts in place, and the rest as launched. -/
theorem held_V1 (d : Dev nD) :
    (held (T d) ucRefs (V1 m d) : sProp 𝕄) = iprop((xLoc d ↦{fullShare} m (xLoc d)) ∗ (cLoc d ↦{fullShare} counts (m (xLoc d)))
      ∗ held (T d) ((ucRefs.erase (r main_arg0)).erase (r main_v0)) (V0 m d)) := by
  rw [held_xc, V1_c, V1_of_ne m d (show r main_arg0 ≠ r main_v0 by decide),
    StableHlo.held_congr (T d) (S := (ucRefs.erase (r main_arg0)).erase (r main_v0)) (V := V1 m d) (V' := V0 m d)
      fun b hb => V1_of_ne m d (Finset.mem_erase.mp hb).1]

/-! ## The pipeline's region -/

/-- The transfers' waits sit below everything the launch owes, and the core owes nothing. -/
theorem cut : LevelCut (pcfgs (F := F)) adm none (K (F := F)).L (K (F := F)).lev (0 : Fin 1) (fun _ : Dev nD => 0) (fun _ => 0) where
  hι _ _ _ := Finset.mem_univ _
  hιb _ _ _ := le_rfl
  hD _ _ _ h := absurd h (Nat.lt_irrefl 0)

/-- The scratches as the region gets them satisfy the pipeline's invariant before the first point. -/
theorem region_hin (c : Dev nD) : iprop(scopedRest (Pipeline.pin (pcfgs (F := F)) adm 0).spec c ∗ emp) ⊢ (pdats m 0 c).Φ 0 := by
  show iprop(scopedRest spec1 c ∗ emp) ⊢ inv (V3 m c) c 0
  rw [scopedRest1_eq]; unfold inv
  iintro ⟨⟨⟨%f8, H8⟩, %f9, H9⟩, -⟩
  iexists f8; iexists f9
  isplitr; · ipureintro; exact fun h => absurd rfl h
  isplitl [H8] <;> iassumption

/-- The invariant after the last point gives the scratches back. -/
theorem region_hout (c : Dev nD) :
    (pdats m 0 c).Φ (Fin.last (Pipeline.pin (pcfgs (F := F)) adm 0).N) ⊢ iprop(scopedRest (Pipeline.pin (pcfgs (F := F)) adm 0).spec c ∗ emp) := by
  show inv (V3 m c) c _ ⊢ iprop(scopedRest spec1 c ∗ emp)
  rw [scopedRest1_eq]; unfold inv
  iintro ⟨%f8, %f9, -, H8, H9⟩
  isplitl
  · isplitl [H8]
    · iexists f8; iexact H8
    · iexists f9; iexact H9
  · iempintro

/-- The TensorCore kernel's region, entered and left with the arrays held. -/
def region : RegionSeg (pcfgs (F := F)) adm (pdats m) none (defs₀ (F := F)) 𝒱₀ (K (F := F)).L (K (F := F)).lev (0 : Fin 1) :=
  RegionSeg.ofHeldIn (pcfgs (F := F)) adm (pdats m) none defs₀ 𝒱₀ (K (F := F)).L (K (F := F)).lev 0 (fun _ => 0) ucRefs (fun _ => iprop(emp)) (fun _ => iprop(emp))
    launch1.toP rfl (fun c => (body_obligation (V3 m c) c).loose) (fun _ _ => rfl) (fun _ => rfl)
    (fun c => (dat (V3 m c) c).share_full fun _ => rfl) (region_hin m) (region_hout m) (fun _ => 0) cut (fun _ => iprop(emp)) (V3 m)
    (fun _ _ => rfl)

/-! ## @main on the TensorCore -/

/-- The pipeline's arrays are among the held arrays. -/
theorem arrs_sub : arrRefs (pcfgs (F := F) 0).spec ⊆ ucRefs := by
  show arrRefs spec1 ⊆ ucRefs
  decide

/-- The arrays held, with nothing owed, are what the region starts from. -/
theorem region_pre (d : Dev nD) :
    iprop(held (T d) ucRefs (V3 m d) ∗ ((∃ W, owes (T d) 0 W) ∗ emp ∗ emp)) ⊢ (region m).pre d := by
  unfold region
  exact RegionSeg.ofHeldIn_pre (pdats := pdats m) (D := fun _ => 0) (X := fun _ => iprop(emp)) (Y := fun _ => iprop(emp)) (R := fun _ => iprop(emp))
    (W := V3 m) (arrs_sub (F := F)) d

/-- What the region ends with is the arrays as it leaves them, with nothing owed. -/
theorem region_post (d : Dev nD) :
    (region m).post d ⊢ iprop(held (T d) ucRefs (V4 m d) ∗ ((∃ W, owes (T d) 0 W) ∗ emp ∗ emp)) := by
  unfold region V4
  exact RegionSeg.ofHeldIn_post (pdats := pdats m) (D := fun _ => 0) (X := fun _ => iprop(emp)) (Y := fun _ => iprop(emp)) (R := fun _ => iprop(emp))
    (W := V3 m) (arrs_sub (F := F)) d

/-- The pipeline's call, inside the launch. -/
abbrev entryCall : Prog (TpuEff nD τ sig (Elt F) (ΛP (F := F)) .tc) PUnit := .op (.customCall (Pipeline.entry 0) ()) fun _ => .ret ⟨⟩

/-- The program's call of the pipeline is that call, put inside the launch. -/
theorem entry_lifted : (Prog.lift (.customCall (SparseCore.inner (Pipeline.entry 0)) ())
    : Prog (TpuEff nD τ sig (Elt F) (SparseCore.Sig (ΛP (F := F)) 1) .tc) PUnit) = SparseCore.liftProg (entryCall (F := F)) := rfl

set_option backward.isDefEq.respectTransparency.types false in
/-- The pipeline's call, from the arrays held and the core owing nothing, to the arrays as the region leaves them. -/
theorem call_region [∀ e, Nonempty (Elt F e)] (d : Dev nD) (W : Waits sig (HIx 1)) (Q : PUnit → sProp 𝕄) :
    iprop(levAts (K (F := F)).L (K (F := F)).lev ∗ boundary (T d) ∗ held (T d) ucRefs (V3 m d) ∗ owes (T d) 0 W ∗ G (F := F) d
        ∗ ((boundary (T d) ∗ held (T d) ucRefs (V4 m d) ∗ ∃ W', owes (T d) 0 W') -∗ Q ⟨⟩))
      ⊢ wp frame (wpE ((K (F := F)).defs (D (F := F))) 𝒱P (T d) none) Set.univ (Prog.lift (.customCall (SparseCore.inner (Pipeline.entry 0)) ())) Q := by
  rw [entry_lifted]
  refine BI.Entails.trans ?_ ((K (F := F)).wp_liftProg (D (F := F)) 𝒱P (T d) Set.univ none (entryCall (F := F)) Q)
  have h := RegionSeg.wp (pcfgs (F := F)) adm (pdats m) none pin_inj EP (defs₀ (F := F)) 𝒱₀ (K (F := F)).L (K (F := F)).lev
    (region m) d none (fun _ h => nomatch h) (fun _ => .ret ⟨⟩) Q
  refine BI.Entails.trans ?_ h
  unfold G
  rw [show (Finset.univ : Finset (Fin 1)) = {0} from rfl, bigSep_singleton, bigSep_singleton]
  refine (show (_ : sProp 𝕄) ⊢ _ from ?_)
  iintro ⟨Hlv, Hb, Hheld, HO, ⟨Hg, Ht⟩, Hk⟩
  isplitl [Hk]
  · iintro ⟨Hb, Hpost⟩
    ihave Hp := (region_post m d) $$ Hpost
    icases Hp with ⟨Hheld, HO, -, -⟩
    rw [wp_ret]; imodintro
    iapply Hk
    isplitl [Hb]; · iexact Hb
    isplitl [Hheld]; · iexact Hheld
    iexact HO
  isplitl [Hb]; · iexact Hb
  isplitl [Hheld HO]
  · iapply (region_pre m d)
    isplitl [Hheld]; · iexact Hheld
    isplitl [HO]; · iexists W; iexact HO
    isplitr <;> iempintro
  isplitl [Hlv]; · iexact Hlv
  isplitl [Hg]; · iexact Hg
  iexact Ht

/-- What @main leaves the claim: its arrays, as the region leaves them. -/
abbrev FIN (d : Dev nD) : sProp 𝕄 := held (T d) ucRefs (V4 m d)

/-- Every wait of the one call sits at or below the level at which the TensorCore ends. -/
theorem below (d : Dev nD) (W : Waits sig (HIx 1)) : (K (F := F)).WBelow (T d) W 8 := fun p _ => by
  match p.2 with
  | none => exact Nat.zero_le _
  | some q =>
    refine ((K (F := F)).lev_some_le _ q).trans ?_
    have := q.isLt
    omega

/-- After the call the TensorCore owes nothing; what it owes can be taken out and put back. -/
theorem tcSt_open (d : Dev nD) : ((K (F := F)).tcSt EH d 1 : sProp 𝕄)
    ⊢ iprop((∃ W, owes (T d) 0 W) ∗ ((∃ W, owes (T d) 0 W) -∗ (K (F := F)).tcSt EH d 1)) := by
  unfold SparseCore.Cfg.tcSt
  rw [(K (F := F)).Otc_end d (le_refl 1)]
  iintro ⟨⟨%W, -, HO⟩, Hrest⟩
  isplitl [HO]; · iexists W; iexact HO
  iintro ⟨%W', HO⟩
  isplitl [HO]
  · iexists W'; isplitr
    · ipureintro; exact below d W'
    · iexact HO
  · iexact Hrest

set_option backward.isDefEq.respectTransparency.types false in
/-- @main on device `d`'s TensorCore: the SparseCore call, the two reshapes, the pipeline's call. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱P (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (T d) ucRefs (V0 m d) from unscoped_held d (V0 m d)]
  simp only [main, wp_bind, wp_pure]
  iintro ⟨#Hctx, Hst, ⟨Hb, Hheld, Hts, -⟩, HG⟩
  ihave Hh := (Entails.of_eq (held_xc (F := F) d _)) $$ Hheld
  icases Hh with ⟨Hx, Hc, Hr⟩
  iapply ((K (F := F)).wp_run (D (F := F)) 𝒱P (EH := EH) (P := P m) κ d 0) $$ [Hst Hx Hc Hb Hr Hts HG]
  isplitr; · iexact Hctx
  isplitl [Hst]; · iexact Hst
  isplitl [Hx Hc]
  · rw [st0_eq]
    isplitl [Hx]; · iexact Hx
    iexact Hc
  iintro ⟨Hst, Hdn⟩
  ihave Hdn' := (Entails.of_eq (dn0_eq m d)) $$ Hdn
  icases Hdn' with ⟨Hx, Hc⟩
  iapply (wp_hlo_within 𝒱P (SparseCore.T d) none Set.univ (op := opB1) (S := ucRefs) (sub_ucRefs _ (StableHlo.reshape_bufs_sub _ _ _ _ _ _)) (V := V1 m d)) $$ [Hb Hx Hc Hr]
  · isplitl [Hb]; · iexact Hb
    rw [held_V1]
    isplitl [Hx]; · iexact Hx
    isplitl [Hc]; · iexact Hc
    iexact Hr
  iintro ⟨Hb, Hheld⟩
  rw [wp_ret]; imodintro
  iapply (wp_hlo_within 𝒱P (SparseCore.T d) none Set.univ (op := opB2) (S := ucRefs) (sub_ucRefs _ (StableHlo.reshape_bufs_sub _ _ _ _ _ _)) (V := V2 m d)) $$ [Hb Hheld]
  · isplitl [Hb]; · iexact Hb
    iexact Hheld
  iintro ⟨Hb, Hheld⟩
  rw [wp_ret]; imodintro
  ihave Hst1 := (show ((K (F := F)).tcSt EH d ((0 : Fin 1).val + 1) : sProp 𝕄) ⊢ (K (F := F)).tcSt EH d 1 from .rfl) $$ Hst
  ihave Ho := (tcSt_open d) $$ Hst1
  icases Ho with ⟨⟨%W, HO⟩, Hst⟩
  iapply (call_region m d W) $$ [Hb Hheld HO HG Hst Hts]
  ihave Hlv := (SparseCore.Cfg.ctx_levAts κ) $$ Hctx
  isplitl [Hlv]; · iexact Hlv
  isplitl [Hb]; · iexact Hb
  isplitl [Hheld]; · iexact Hheld
  isplitl [HO]; · iexact HO
  isplitl [HG]; · iexact HG
  iintro ⟨Hb, Hheld, HO⟩
  imodintro
  isplitl [HO Hst]
  · iapply Hst; iexact HO
  isplitl [Hheld]; · iexact Hheld
  isplitl [Hb] <;> iassumption

/-! ## What the final memory holds -/

/-- An array that is neither the counts nor a reshaped bias reaches the pipeline as launched. -/
theorem V3_of_ne (d : Dev nD) {b : Ref sig .tc} (h0 : b ≠ main_v0) (h1 : b ≠ main_v1) (h2 : b ≠ main_v2) :
    V3 m d (r b) = m ((SparseCore.T d).loc b) := by
  unfold V3 V2
  rw [StableHlo.reshape_result_ne _ _ _ _ _ _ _ h2, StableHlo.reshape_result_ne _ _ _ _ _ _ _ h1, V1_of_ne m d (StableHlo.devRef_ne_of_ne h0)]

/-- The counts reach the pipeline as the SparseCore left them. -/
theorem V3_c (d : Dev nD) : V3 m d (r main_v0) = counts (m (xLoc d)) := by
  unfold V3 V2
  rw [StableHlo.reshape_result_ne _ _ _ _ _ _ _ (by decide), StableHlo.reshape_result_ne _ _ _ _ _ _ _ (by decide), V1_c]

/-- The first bias reaches the pipeline as a one-row matrix. -/
theorem V3_b1 (d : Dev nD) : V3 m d (r main_v1)
    = shapeCast S1x8192 (m ((SparseCore.T d).loc main_arg3) : Vec F S8192 .f32) shapeCasts_S8192_S1x8192 := by
  unfold V3 V2
  rw [StableHlo.reshape_result_ne _ _ _ _ _ _ _ (by decide), StableHlo.reshape_result, V1_of_ne m d (by decide)]
  rfl

/-- The second bias reaches the pipeline as a one-row matrix. -/
theorem V3_b2 (d : Dev nD) : V3 m d (r main_v2)
    = shapeCast S1x2 (m ((SparseCore.T d).loc main_arg5) : Vec F S2 .f32) shapeCasts_S2_S1x2 := by
  unfold V3
  rw [StableHlo.reshape_result]
  unfold V2
  rw [StableHlo.reshape_result_ne _ _ _ _ _ _ _ (by decide), V1_of_ne m d (by decide)]
  rfl

/-- The kernel's result, of its arguments. -/
def result (x : IVec S32x2048 32) (emb : Vec F S1000x4096 .f32) (w1 : Vec F S4096x8192 .f32) (b1 : Vec F S8192 .f32)
    (w2 : Vec F S8192x2 .f32) (b2 : Vec F S2 .f32) : Vec F S32x2 .f32 :=
  mlp (counts x) emb w1 (shapeCast S1x8192 b1 shapeCasts_S8192_S1x8192) w2 (shapeCast S1x2 b2 shapeCasts_S2_S1x2)

/-- The kernel's result, of its arguments at device `d`. -/
abbrev resultAt (d : Dev nD) : Vec F S32x2 .f32 :=
  result (m ((SparseCore.T d).loc main_arg0)) (m ((SparseCore.T d).loc main_arg1)) (m ((SparseCore.T d).loc main_arg2))
    (m ((SparseCore.T d).loc main_arg3)) (m ((SparseCore.T d).loc main_arg4)) (m ((SparseCore.T d).loc main_arg5))

/-- The pipeline leaves the result array holding the kernel's result. -/
theorem V4_out (d : Dev nD) : V4 m d (r main_v3) = resultAt m d := by
  refine (afterRegion_arr (pdats m 0 d) (V3 m d) launch1.win.arr_inj 6).trans ((final_out (V3 m d) d).trans ?_)
  show mlp (V3 m d (r main_v0)) (V3 m d (r main_arg1)) (V3 m d (r main_arg2)) (V3 m d (r main_v1)) (V3 m d (r main_arg4)) (V3 m d (r main_v2)) = _
  rw [V3_c, V3_b1, V3_b2, V3_of_ne m d (by decide) (by decide) (by decide), V3_of_ne m d (by decide) (by decide) (by decide),
    V3_of_ne m d (by decide) (by decide) (by decide)]
  rfl

/-- An array the region does not write ends as it started. -/
theorem V4_keeps (d : Dev nD) {b : Ref sig .tc} (h : ∀ w, arrRef spec1 w = b → (cfg1.win w).isOut = false)
    (h0 : b ≠ main_v0) (h1 : b ≠ main_v1) (h2 : b ≠ main_v2) : V4 m d (r b) = m ((SparseCore.T d).loc b) :=
  (afterRegion_keeps (pdats m 0 d) (V3 m d) launch1.win.arr_inj (fun _ => rfl) b h).trans (V3_of_ne m d h0 h1 h2)

/-- The final memory at device `d`: the result, and the arguments as launched. -/
def fq (d : Dev nD) (s' : Phys nD τ sig (Elt F)) : Prop := ∀ b ∈ ucRefs, s'.mem.mem (d, b) = V4 m d b

/-- The final state's memory agrees with the arrays held at the end. -/
theorem hfin (d : Dev nD) (s' : Phys nD τ sig (Elt F)) : iprop(FIN m d ∗ SI s') ⊢ (⌜fq m d s'⌝ : sProp 𝕄) :=
  (pointsTo_read_all ucRefs (fun b => (d, b)) (V4 m d) s').trans sep_elim_left

/-- What the run ends with. -/
def Ends (s : MemSt nD τ sig (Elt F)) : Prop :=
  (∀ d : Dev nD, s.mem ((SparseCore.T d).loc main_v3) = resultAt m d
    ∧ s.mem ((SparseCore.T d).loc main_arg0) = m ((SparseCore.T d).loc main_arg0)
    ∧ s.mem ((SparseCore.T d).loc main_arg1) = m ((SparseCore.T d).loc main_arg1)
    ∧ s.mem ((SparseCore.T d).loc main_arg2) = m ((SparseCore.T d).loc main_arg2)
    ∧ s.mem ((SparseCore.T d).loc main_arg3) = m ((SparseCore.T d).loc main_arg3)
    ∧ s.mem ((SparseCore.T d).loc main_arg4) = m ((SparseCore.T d).loc main_arg4)
    ∧ s.mem ((SparseCore.T d).loc main_arg5) = m ((SparseCore.T d).loc main_arg5))
  ∧ s.sem = fun _ => 0

/-- A final memory with those arrays, and every semaphore at zero, is what the run ends with. -/
theorem ends_of (s' : Phys nD τ sig (Elt F)) (h : ∀ d, fq m d s') (hz : s'.mem.sem = fun _ => 0) : Ends m s'.mem := by
  have keep : ∀ (d : Dev nD) (b : Ref sig .tc), r b ∈ ucRefs → (∀ w, arrRef spec1 w = b → (cfg1.win w).isOut = false) →
      b ≠ main_v0 → b ≠ main_v1 → b ≠ main_v2 → s'.mem.mem ((SparseCore.T d).loc b) = m ((SparseCore.T d).loc b) :=
    fun d b hb hw h0 h1 h2 => (h d (r b) hb).trans (V4_keeps m d hw h0 h1 h2)
  refine ⟨fun d => ⟨(h d (r main_v3) (by decide)).trans (V4_out m d), keep d _ ?_ ?_ ?_ ?_ ?_, keep d _ ?_ ?_ ?_ ?_ ?_, keep d _ ?_ ?_ ?_ ?_ ?_,
    keep d _ ?_ ?_ ?_ ?_ ?_, keep d _ ?_ ?_ ?_ ?_ ?_, keep d _ ?_ ?_ ?_ ?_ ?_⟩, hz⟩ <;> decide

/-- The program's run, at any float values: it ends with the result in place, its arguments unchanged and every
    semaphore at zero, given indices in range. -/
theorem run_main [∀ e, Nonempty (Elt F e)] (hpre : InRange m) :
    θ_run (Cert.KernelIdeal.defs (F := F)) (Cert.KernelIdeal.threads (F := F)) ⟨m, fun _ => 0, ρ⟩ (fun x => Ends m x.2) :=
  SparseCore.Cfg.θ_run_sc_quiescent (K := K (F := F)) (D := D (F := F)) (𝒱 := 𝒱P) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (G (F := F)) (FIN m) (u₀ (F := F)) (sep_elim_left.trans (hu₀ m)) (hmain m ρ) (fq m) (hfin m) (fun x => Ends m x.2) (ends_of m)

end Cert.Proof.Pooled

end
-- ==== Proof.Frames.lean ====
/-
  The frames: the precondition read as "every index is below 1000", and each program's run read at its arguments.
-/
module

public import proofs.«01_k».proof.Proof.Launch
public import proofs.«01_k».proof.Proof.Gen.Kernel
public import proofs.«01_k».proof.Proof.Gen.ReferenceIdeal
public import proofs.«01_k».proof.Proof.Gen.ReferenceIdeal.Run
public import proofs.«01_k».proof.Proof.Gen.Pre_indices_in_range
public import Idealize.ShloMosaic.Lib.ReduceAll
public import Idealize.ShloMosaic.Lib.Affine
public import Idealize.ShloMosaic.Lib.Quiescent

@[expose] public section

noncomputable section

namespace Cert.Proof.Pooled

open Idealize.ShloMosaic Idealize.SL.Sem

/-- A 32-bit word that is, read signed, at least 0 and below 1000 is below 1000 read unsigned. -/
theorem toNat_lt (w : BitVec 32) (h0 : (0#32).toInt ≤ w.toInt) (h1 : w.toInt < (1000#32).toInt) : w.toNat < 1000 := by
  have e0 : (0#32 : BitVec 32).toInt = 0 := by decide
  have e1 : (1000#32 : BitVec 32).toInt = 1000 := by decide
  rw [e0] at h0; rw [e1] at h1
  have := w.isLt
  rw [BitVec.toInt_eq_toNat_cond] at h0 h1
  split at h0 <;> omega

/-- The precondition holds of an array of indices exactly when it should: every index is below 1000. -/
theorem lt_of_pre {F : FTy → Type} [FloatOps F] (x : IVec Cert.KernelIdeal.S32x2048 32) (a1 a2 a3 a4 a5)
    (h : Cert.Pre_indices_in_range.fn (F := F) x a1 a2 a3 a4 a5 = fun _ => 1#1) (i : Cert.KernelIdeal.S32x2048.Idx) : (x i).toNat < 1000 := by
  have hs : Subsingleton Cert.Pre_indices_in_range.S_.Idx := ⟨fun a b => funext fun k => k.elim0⟩
  have e := Host.reduce_andi_all _ _ _ _ _ (congrFun h (fun k => k.elim0)) i
  obtain ⟨e0, e1⟩ := IntOp.andi_eq_one.1 e
  exact toNat_lt _ (IntOp.cmpi_sge.1 e0) (IntOp.cmpi_slt.1 e1)

/-- The kernels' bodies printed for words are the ones printed for ideal values, read at words. -/
theorem bodies_eq : Cert.Kernel.defs₀ (F := Bits) = Cert.KernelIdeal.defs₀ (F := Bits) := by
  funext p ℓ a
  cases p <;> fin_cases ℓ <;> rfl

/-- So are the whole programs' procedure tables. -/
theorem defs_eq : Cert.Kernel.defs (F := Bits) = Cert.KernelIdeal.defs (F := Bits) :=
  congrArg (fun D => Cert.KernelIdeal.sc.defs (Pipeline.defs Cert.KernelIdeal.pcfgs D)) bodies_eq

/-- The kernel's frame: it ends with its arguments as they were and every semaphore at zero. -/
theorem frame_kernel : Cert.quiescent_Kernel := fun m ρ hpre => by
  rw [defs_eq]
  exact (θ_run Cert.KernelIdeal.defs Cert.KernelIdeal.threads _).mono (fun _ h => ⟨fun c => (h.1 c).2, h.2⟩)
    (run_main (F := Bits) m ρ fun d i => lt_of_pre _ _ _ _ _ _ (hpre d) i)

/-- The idealized kernel's frame, from the same run. -/
theorem frame_ideal : Cert.quiescent_KernelIdeal := fun m ρ hpre =>
  (θ_run Cert.KernelIdeal.defs _ _).mono (fun _ h => ⟨fun c => (h.1 c).2, h.2⟩)
    (run_main (F := Ideal) m ρ fun d i => lt_of_pre _ _ _ _ _ _ (hpre d) i)

/-- The reference's frame: it has no semaphores, and its run leaves its arguments. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's frame again, at memories the precondition holds of. -/
theorem frame_reference_pre : Cert.quiescent_ReferenceIdeal_pre_indices_in_range := fun m ρ _ => frame_reference m ρ trivial

end Cert.Proof.Pooled

end
-- ==== Proof.Value.lean ====
/-
  The value of the kernel over the extended reals: the histogram is a count, the product of the counts with the
  embedding is the mean of the rows looked up, and the sum over the hidden blocks is the sum over the hidden layer.
-/
module

public import proofs.«01_k».proof.Proof.Launch
public import Idealize.ShloMosaic.Lib.MatmulPlain
public import Idealize.ShloMosaic.Lib.ValueIdx
public import Idealize.ShloMosaic.Lib.IdealHost
public import Idealize.ShloMosaic.Lib.Pipeline.Value

@[expose] public section

noncomputable section

namespace Cert.Proof.Pooled

open Cert.KernelIdeal Cert.KernelIdeal.Gen
open Idealize.ShloMosaic Idealize.ShloMosaic.ValueIdx
open scoped BigOperators

/-! ## The problem, in mathematics -/

/-- The embedding's row that an index names (an index below 1000 names its own). -/
def row (w : BitVec 32) : Fin 1000 := ⟨w.toNat % 1000, Nat.mod_lt _ (by norm_num)⟩

/-- The mean, over the positions of sentence `b`, of column `k` of the rows looked up. -/
def mean (x : IVec S32x2048 32) (emb : Vec Ideal S1000x4096 .f32) (b : Fin 32) (k : Fin 4096) : EReal :=
  (∑ l : Fin 2048, emb (ix2 (row (x (ix2 b l))) k)) * ((1 / 2048 : ℝ) : EReal)

/-- Hidden unit `h` on a pooled embedding `p`: an affine form of it, cut off at 0. -/
def hidden (p : Fin 4096 → EReal) (w1 : Vec Ideal S4096x8192 .f32) (b1 : Vec Ideal S8192 .f32) (h : Fin 8192) : EReal :=
  max (∑ k : Fin 4096, p k * w1 (ix2 k h) + b1 (ix1 h)) 0

/-- The result: an affine form of the hidden layer. -/
def answer (x : IVec S32x2048 32) (emb : Vec Ideal S1000x4096 .f32) (w1 : Vec Ideal S4096x8192 .f32) (b1 : Vec Ideal S8192 .f32)
    (w2 : Vec Ideal S8192x2 .f32) (b2 : Vec Ideal S2 .f32) (b : Fin 32) (c : Fin 2) : EReal :=
  ∑ h : Fin 8192, hidden (mean x emb b) w1 b1 h * w2 (ix2 h c) + b2 (ix1 c)

/-! ## Sums of extended reals -/

/-- Terms that are not negative may be multiplied one by one; -/
theorem sum_mul_nonneg {ι : Type} (s : Finset ι) (f : ι → EReal) (hf : ∀ i, 0 ≤ f i) (a : EReal) :
    (∑ i ∈ s, f i) * a = ∑ i ∈ s, f i * a := by
  classical
  induction s using Finset.induction_on with
  | empty => simp
  | insert i s hi ih =>
    rw [Finset.sum_insert hi, Finset.sum_insert hi, ← ih]
    exact EReal.right_distrib_of_nonneg (hf i) (Finset.sum_nonneg fun j _ => hf j)

/-- and so may any terms, by a real that is not negative. -/
theorem mul_sum_real {ι : Type} (s : Finset ι) (f : ι → EReal) (c : ℝ) (hc : 0 ≤ c) :
    (c : EReal) * ∑ i ∈ s, f i = ∑ i ∈ s, (c : EReal) * f i := by
  classical
  induction s using Finset.induction_on with
  | empty => simp
  | insert i s hi ih =>
    rw [Finset.sum_insert hi, Finset.sum_insert hi, ← ih]
    exact EReal.left_distrib_of_nonneg_of_ne_top (EReal.coe_nonneg.2 hc) (EReal.coe_ne_top c) _ _

/-! ## The histogram -/

/-- The histogram counts: at a place, one for each word that names it. -/
theorem hist_ideal (w : ℕ → BitVec 32) (n : ℕ) (v : Fin 1024) :
    hist (F := Ideal) w n (ix1 v) = ∑ l ∈ Finset.range n, if (w l).toNat = v.val then (1 : EReal) else 0 := by
  induction n with
  | zero => exact Ideal.ofBits_zero_f32
  | succ n ih =>
    rw [Finset.sum_range_succ, ← ih]
    show (if v.val = (w n).toNat then (hist (F := Ideal) w n (ix1 v) + Ideal.ofBits .f32 0x3F800000#32 : EReal)
      else hist (F := Ideal) w n (ix1 v)) = _
    by_cases h : v.val = (w n).toNat
    · rw [if_pos h, if_pos h.symm]
      exact congrArg (_ + ·) Ideal.ofBits_one_f32
    · rw [if_neg h, if_neg fun e => h e.symm, add_zero]

/-- So the counts do, over a row's positions. -/
theorem counts_ideal (x : IVec S32x2048 32) (b : Fin 32) (v : Fin 1024) :
    counts (F := Ideal) x (ix2 b v) = ∑ l : Fin 2048, if (x (ix2 b l)).toNat = v.val then (1 : EReal) else 0 := by
  refine (hist_ideal (word x b) 2048 v).trans ?_
  rw [Finset.sum_range]
  refine Finset.sum_congr rfl fun l _ => ?_
  rw [word, dif_pos l.isLt]

/-! ## The pooled embedding -/

/-- The kernel's constant is one over the number of positions. -/
theorem ofBits_recip : Ideal.ofBits .f32 0x3A000000#32 = ((1 / 2048 : ℝ) : EReal) := by
  simp [Ideal.ofBits, Ideal.ieee, -EReal.coe_mul]; norm_num

/-- The kernel's pooled embedding, as its product reads. -/
theorem pool_apply (c : Vec Ideal S32x1024 .f32) (emb : Vec Ideal S1000x4096 .f32) (b : Fin 32) (k : Fin 4096) :
    pool c emb (ix2 b k)
      = ∑ v : Fin 1000, c (ix2 b (v.castLE (by norm_num))) * ((1 / 2048 : ℝ) : EReal) * emb (ix2 v k) := by
  unfold pool k1_pay1
  rw [shapeCast_self, shapeCast_self]
  refine (Ideal.matmul_plain_apply none _ _ _ b k).trans ?_
  rw [constant_apply, Ideal.ofBits_zero_f32, zero_add]
  refine Finset.sum_congr rfl fun v _ => ?_
  rw [truncf_apply, truncf_apply, mulf_apply, broadcast_apply]
  have e : countCols c (ix2 b v) = c (ix2 b (v.castLE (by norm_num))) := by
    unfold countCols
    refine congrArg c (funext fun a => Fin.ext ?_)
    match a with
    | ⟨0, _⟩ => show 0 + 1 * b.val = b.val; omega
    | ⟨1, _⟩ => show 0 + 1 * v.val = v.val; omega
  rw [e]
  exact congrArg (fun r => c _ * r * emb (ix2 v k)) ofBits_recip

/-- It is the mean of the rows looked up. -/
theorem pool_mean (x : IVec S32x2048 32) (hx : ∀ i, (x i).toNat < 1000) (emb : Vec Ideal S1000x4096 .f32) (b : Fin 32) (k : Fin 4096) :
    pool (counts x) emb (ix2 b k) = mean x emb b k := by
  have hr : (0 : ℝ) ≤ 1 / 2048 := by norm_num
  rw [pool_apply, mean, mul_comm (Finset.sum _ _), mul_sum_real _ _ _ hr]
  have h1 : ∀ v : Fin 1000, counts (F := Ideal) x (ix2 b (v.castLE (by norm_num))) * ((1 / 2048 : ℝ) : EReal) * emb (ix2 v k)
      = ∑ l : Fin 2048, if row (x (ix2 b l)) = v then ((1 / 2048 : ℝ) : EReal) * emb (ix2 v k) else 0 := by
    intro v
    rw [counts_ideal, mul_assoc, sum_mul_nonneg _ _ (fun l => by split <;> simp)]
    refine Finset.sum_congr rfl fun l _ => ?_
    have hl : (x (ix2 b l)).toNat = v.val ↔ row (x (ix2 b l)) = v := by
      rw [Fin.ext_iff]
      show _ ↔ (x (ix2 b l)).toNat % 1000 = v.val
      rw [Nat.mod_eq_of_lt (hx _)]
    by_cases h : row (x (ix2 b l)) = v
    · rw [if_pos h, if_pos (by exact hl.2 h), one_mul]
    · rw [if_neg h, if_neg (by exact fun e => h (hl.1 e)), zero_mul]
  simp only [h1]
  rw [Finset.sum_comm]
  refine Finset.sum_congr rfl fun l _ => ?_
  rw [Finset.sum_ite_eq, if_pos (Finset.mem_univ _)]

/-! ## The perceptron -/

/-- One hidden block: it adds its units' part of the last layer's sum. -/
theorem pay3_apply (p : Vec Ideal S32x4096 .f32) (w1 : Vec Ideal S4096x512 .f32) (b1 : Vec Ideal S1x512 .f32) (a : Vec Ideal S32x2 .f32)
    (w2 : Vec Ideal S512x2 .f32) (b : Fin 32) (c : Fin 2) :
    k1_pay3 p w1 b1 a w2 (ix2 b c)
      = a (ix2 b c) + ∑ h : Fin 512, max (∑ k : Fin 4096, p (ix2 b k) * w1 (ix2 k h) + b1 (ix2 0 h)) 0 * w2 (ix2 h c) := by
  unfold k1_pay3
  rw [shapeCast_self, shapeCast_self, addf_apply]
  refine congrArg (a (ix2 b c) + ·) ((Ideal.matmul_plain_apply none _ _ _ b c).trans ?_)
  rw [constant_apply, Ideal.ofBits_zero_f32, zero_add]
  refine Finset.sum_congr rfl fun h _ => ?_
  rw [truncf_apply, truncf_apply, maximumf_apply, addf_apply, broadcast_apply,
    broadcastTo_apply b1 broadcasts_S1x512_S32x512 (ix2 b h) (ix2 0 h) (fun a => by fin_cases a <;> rfl)]
  refine congrArg (· * w2 (ix2 h c)) (congrArg₂ max (congrArg (· + b1 (ix2 0 h)) ?_) Ideal.ofBits_zero_f32)
  refine (Ideal.matmul_plain_apply none _ _ _ b h).trans ?_
  rw [constant_apply, Ideal.ofBits_zero_f32, zero_add]
  rfl

/-- The accumulator after `n` blocks is the sum over their hidden units. -/
theorem acc_apply (p : Vec Ideal S32x4096 .f32) (w1 : Vec Ideal S4096x8192 .f32) (b1 : Vec Ideal S8192 .f32) (w2 : Vec Ideal S8192x2 .f32)
    (b : Fin 32) (c : Fin 2) (n : ℕ) (hn : n ≤ 16) :
    acc p w1 (shapeCast S1x8192 b1 shapeCasts_S8192_S1x8192) w2 n (ix2 b c)
      = ∑ i : Fin n, ∑ h : Fin 512, (fun u : Fin 8192 => hidden (fun k => p (ix2 b k)) w1 b1 u * w2 (ix2 u c))
          ⟨512 * i.val + h.val, by omega⟩ := by
  induction n with
  | zero =>
    rw [Fin.sum_univ_zero, acc, k1_pay2]
    rw [shapeCast_self]
    exact Ideal.ofBits_zero_f32
  | succ n ih =>
    rw [acc, dif_pos (show n < 16 by omega), pay3_apply, ih (by omega)]
    refine Eq.trans ?_ (Fin.sum_univ_castSucc (n := n) _).symm
    refine congrArg₂ (· + ·) rfl (Finset.sum_congr rfl fun h _ => ?_)
    have e : b1Blk (shapeCast S1x8192 b1 shapeCasts_S8192_S1x8192) ⟨n, by omega⟩ (ix2 0 h) = b1 (ix1 ⟨512 * n + h.val, by omega⟩) := by
      refine shapeCast_apply b1 shapeCasts_S8192_S1x8192 _ _ ?_
      rw [Shape.rowMajor_val_one, Shape.rowMajor_val_two]
      show 512 * n + h.val = 0 * 8192 + (512 * n + h.val)
      omega
    rw [e]
    rfl

/-- A sum over the hidden layer is the sum over its sixteen blocks. -/
theorem sum_blocks (f : Fin 8192 → EReal) :
    ∑ i : Fin 16, ∑ h : Fin 512, f ⟨512 * i.val + h.val, by omega⟩ = ∑ u : Fin 8192, f u := by
  rw [← Equiv.sum_comp (finProdFinEquiv (m := 16) (n := 512)) (fun u : Fin (16 * 512) => f u), Fintype.sum_prod_type]
  refine Finset.sum_congr rfl fun i _ => Finset.sum_congr rfl fun h _ => congrArg f (Fin.ext ?_)
  show 512 * i.val + h.val = h.val + 512 * i.val
  omega

/-- The kernel's result is the answer. -/
theorem result_answer (x : IVec S32x2048 32) (hx : ∀ i, (x i).toNat < 1000) (emb : Vec Ideal S1000x4096 .f32)
    (w1 : Vec Ideal S4096x8192 .f32) (b1 : Vec Ideal S8192 .f32) (w2 : Vec Ideal S8192x2 .f32) (b2 : Vec Ideal S2 .f32) :
    result x emb w1 b1 w2 b2 = fun j => answer x emb w1 b1 w2 b2 (j 0) (j 1) := by
  funext j
  obtain ⟨b, c, rfl⟩ : ∃ (b : Fin 32) (c : Fin 2), j = ix2 b c := ⟨j 0, j 1, eq_ix2 j⟩
  show result x emb w1 b1 w2 b2 (ix2 b c) = answer x emb w1 b1 w2 b2 b c
  unfold result mlp k1_pay4
  rw [shapeCast_self, addf_apply, acc_apply _ _ _ _ b c 16 le_rfl, sum_blocks fun u => hidden (fun k => pool (counts x) emb (ix2 b k)) w1 b1 u * w2 (ix2 u c),
    broadcastTo_apply _ broadcasts_S1x2_S32x2 (ix2 b c) (ix2 0 c) (fun a => by fin_cases a <;> rfl)]
  refine congrArg₂ (· + ·) ?_ ?_
  · have e : (fun k => pool (counts x) emb (ix2 b k)) = mean x emb b := funext fun k => pool_mean x hx emb b k
    rw [e]
  · refine shapeCast_apply b2 shapeCasts_S2_S1x2 _ _ ?_
    rw [Shape.rowMajor_val_one, Shape.rowMajor_val_two]
    show c.val = 0 * 2 + c.val
    omega

end Cert.Proof.Pooled

end
-- ==== Proof.Ref.lean ====
/-
  The value of the reference over the extended reals, at indices in range: the lookup reads each index's own row, so the
  reference's result is the answer too.
-/
module

public import proofs.«01_k».proof.Proof.Value
public import proofs.«01_k».proof.Proof.Gen.ReferenceIdeal
public import proofs.«01_k».proof.Proof.Gen.ReferenceIdeal.Run
public import Idealize.ShloMosaic.Lib.ReduceAll
public import Idealize.ShloMosaic.Lib.Affine
public import Idealize.ShloMosaic.Lib.StackMember
public import Idealize.ShloMosaic.Lib.Pointwise.Reduce

@[expose] public section

noncomputable section

namespace Cert.Proof.Pooled

open Cert.ReferenceIdeal Cert.ReferenceIdeal.Gen
open Idealize.ShloMosaic hiding ix1 ix2 ix3 eq_ix2 eq_ix3
open Idealize.ShloMosaic.ValueIdx
open scoped BigOperators

/-! ## The reference's operations, in stages -/

/-- The indices after Python's rule for negative ones; -/
def wrapped (x : IVec S32x2048 32) : IVec S32x2048 32 :=
  select (cmpi .slt x (broadcastInDim S32x2048 ![] bcast_S_S32x2048 (constantI S_ 32 0#32)))
    (addi x (broadcastInDim S32x2048 ![] bcast_S_S32x2048 (constantI S_ 32 1000#32))) x

/-- the same, as the rows a lookup starts at; -/
def starts (x : IVec S32x2048 32) : IVec S32x2048x1 32 := broadcastInDim S32x2048x1 ![0, 1] bcast_S32x2048_S32x2048x1_0_1 (wrapped x)

/-- whether each lies in the embedding; -/
def inside (x : IVec S32x2048 32) : IVec S32x2048 1 :=
  Host.reduce IntOp.andi (andi (cmpi .sge (starts x) (broadcastInDim S32x2048x1 ![] bcast_S_S32x2048x1 (constantI S_ 32 0#32)))
    (cmpi .sle (starts x) (broadcastInDim S32x2048x1 ![0, 1, 2] bcast_S1x1x1_S32x2048x1_0_1_2 (broadcastInDim S1x1x1 ![2] bcast_S1_S1x1x1_2 (constantI S1 32 999#32)))))
    (constantI S_ 1 1#1) reducesTo_S32x2048x1_S32x2048_d2 h_S_

/-- the rows looked up, a filler in place of those outside; -/
def looked (x : IVec S32x2048 32) (emb : FVec Ideal S1000x4096 .f32) : FVec Ideal S32x2048x4096 .f32 :=
  select (broadcastInDim S32x2048x4096 ![0, 1] bcast_S32x2048_S32x2048x4096_0_1 (inside x))
    (Host.gather gather_S1000x4096_S32x2048x1_S32x2048x4096_2_0_n_n_0_2_14096 emb (starts x))
    (broadcastInDim S32x2048x4096 ![] bcast_S_S32x2048x4096 (constant S_ .f32 0x7FC00000#32))

/-- their mean; -/
def averaged (x : IVec S32x2048 32) (emb : FVec Ideal S1000x4096 .f32) : FVec Ideal S32x4096 .f32 :=
  Host.divf (Host.reduceAdd (looked x emb) (constant S_ .f32 0x00000000#32) reducesTo_S32x2048x4096_S32x4096_d1 h_S_)
    (broadcastInDim S32x4096 ![] bcast_S_S32x4096 (constant S_ .f32 0x45000000#32))

/-- the hidden layer on it; -/
def layer (p : FVec Ideal S32x4096 .f32) (w1 : FVec Ideal S4096x8192 .f32) (b1 : FVec Ideal S8192 .f32) : FVec Ideal S32x8192 .f32 :=
  maximumf (addf (Host.dotGeneral dot_S32x4096_S4096x8192_S32x8192_1_0_0_1_n_n none p w1)
    (broadcastInDim S32x8192 ![0, 1] bcast_S1x8192_S32x8192_0_1 (broadcastInDim S1x8192 ![1] bcast_S8192_S1x8192_1 b1)))
    (broadcastInDim S32x8192 ![] bcast_S_S32x8192 (constant S_ .f32 0x00000000#32))

/-- and the last layer on that. -/
def lastLayer (h : FVec Ideal S32x8192 .f32) (w2 : FVec Ideal S8192x2 .f32) (b2 : FVec Ideal S2 .f32) : FVec Ideal S32x2 .f32 :=
  addf (Host.dotGeneral dot_S32x8192_S8192x2_S32x2_1_0_0_1_n_n none h w2)
    (broadcastInDim S32x2 ![0, 1] bcast_S1x2_S32x2_0_1 (broadcastInDim S1x2 ![1] bcast_S2_S1x2_1 b2))

/-! ## The lookup, at indices in range -/

/-- A word below 1000 is the same number read signed. -/
theorem toInt_of_lt {w : BitVec 32} (h : w.toNat < 1000) : w.toInt = w.toNat :=
  BitVec.toInt_eq_toNat_of_lt (by omega)

/-- An index in range is not negative, and stays. -/
theorem wrapped_eq (x : IVec S32x2048 32) (hx : ∀ i, (x i).toNat < 1000) : wrapped x = x := by
  funext i
  have e : cmpi .slt x (broadcastInDim S32x2048 ![] bcast_S_S32x2048 (constantI S_ 32 0#32)) i = 0#1 :=
    eq_zero_of_ne_one fun h => by
      have h' : (x i).toInt < (0#32 : BitVec 32).toInt := IntOp.cmpi_slt.1 h
      rw [toInt_of_lt (hx i), show (0#32 : BitVec 32).toInt = 0 from by decide] at h'
      omega
  rw [wrapped, select_apply, e, select_zero]

/-- So a lookup starts at the index itself. -/
theorem starts_apply (x : IVec S32x2048 32) (hx : ∀ i, (x i).toNat < 1000) (b : Fin 32) (l : Fin 2048) (o : Fin 1) :
    starts x (ix3 b l o) = x (ix2 b l) := by
  rw [starts, wrapped_eq x hx]
  exact broadcastInDim_apply _ _ x _ (ix2 b l) fun a => by fin_cases a <;> rfl

/-- Every index lies in the embedding. -/
theorem inside_eq (x : IVec S32x2048 32) (hx : ∀ i, (x i).toNat < 1000) (j : S32x2048.Idx) : inside x j = 1#1 := by
  refine Host.reduce_andi_one _ _ _ _ _ rfl fun i => ?_
  obtain ⟨b, l, o, rfl⟩ : ∃ (b : Fin 32) (l : Fin 2048) (o : Fin 1), i = ix3 b l o := ⟨i 0, i 1, i 2, eq_ix3 i⟩
  have h := toInt_of_lt (hx (ix2 b l))
  have hl := hx (ix2 b l)
  refine IntOp.andi_eq_one.2 ⟨IntOp.cmpi_sge.2 ?_, IntOp.cmpi_sle.2 ?_⟩
  · rw [starts_apply x hx, h]
    show (0#32 : BitVec 32).toInt ≤ _
    rw [show (0#32 : BitVec 32).toInt = 0 from by decide]
    omega
  · rw [starts_apply x hx, h]
    show _ ≤ (999#32 : BitVec 32).toInt
    rw [show (999#32 : BitVec 32).toInt = 999 from by decide]
    omega

/-- The gather reads, at a position, the row that its start names, and the same column. -/
theorem gather_rows_apply (emb : FVec Ideal S1000x4096 .f32) (idx : IVec S32x2048x1 32) (b : Fin 32) (l : Fin 2048) (k : Fin 4096)
    (h : (idx (ix3 b l 0)).toNat < 1000) :
    Host.gather gather_S1000x4096_S32x2048x1_S32x2048x4096_2_0_n_n_0_2_14096 emb idx (ix3 b l k) = emb (ix2 (row (idx (ix3 b l 0))) k) := by
  unfold Host.gather
  refine congrArg emb (funext fun a => Fin.ext ?_)
  show GatherDims.start _ (ix3 b l k) idx a + GatherDims.batchCoord _ (ix3 b l k) a + GatherDims.offCoord _ (ix3 b l k) a = _
  rw [GatherDims.batchCoord_eq_zero _ _ _ List.not_mem_nil]
  match a with
  | ⟨0, _⟩ =>
    rw [GatherDims.offCoord_eq_zero _ _ _ (fun m => ((GatherDims.mem_sKept _ _).mp m).1 (List.mem_singleton.mpr rfl))]
    have e : GatherDims.start gather_S1000x4096_S32x2048x1_S32x2048x4096_2_0_n_n_0_2_14096 (ix3 b l k) idx (0 : Fin 2)
        = (idx (ix3 b l 0)).toNat := by
      unfold GatherDims.start
      rw [dif_pos (show (0 : Fin 2) ∈ gather_S1000x4096_S32x2048x1_S32x2048x4096_2_0_n_n_0_2_14096.startIndexMap from List.mem_singleton.mpr rfl)]
      have hs : GatherDims.siIdx gather_S1000x4096_S32x2048x1_S32x2048x4096_2_0_n_n_0_2_14096 (ix3 b l k)
          ⟨List.idxOf (0 : Fin 2) gather_S1000x4096_S32x2048x1_S32x2048x4096_2_0_n_n_0_2_14096.startIndexMap,
            List.idxOf_lt_length_iff.2 (List.mem_singleton.mpr rfl)⟩ = ix3 b l 0 := by
        funext c
        refine Fin.ext ?_
        match c with
        | ⟨0, _⟩ => rfl
        | ⟨1, _⟩ => rfl
        | ⟨2, _⟩ => rfl
      rw [hs, toInt_of_lt h, Int.toNat_natCast]
      show min _ (1000 - 1) = _
      omega
    show GatherDims.start gather_S1000x4096_S32x2048x1_S32x2048x4096_2_0_n_n_0_2_14096 (ix3 b l k) idx (0 : Fin 2) + 0 + 0
      = (idx (ix3 b l 0)).toNat % 1000
    rw [e, Nat.mod_eq_of_lt h, Nat.add_zero]
  | ⟨1, _⟩ =>
    have e : GatherDims.start gather_S1000x4096_S32x2048x1_S32x2048x4096_2_0_n_n_0_2_14096 (ix3 b l k) idx (1 : Fin 2) = 0 := by
      unfold GatherDims.start
      exact dif_neg (by decide)
    show GatherDims.start gather_S1000x4096_S32x2048x1_S32x2048x4096_2_0_n_n_0_2_14096 (ix3 b l k) idx (1 : Fin 2) + 0 + k.val = k.val
    rw [e]
    omega

/-- The lookup reads every index's own row. -/
theorem looked_apply (x : IVec S32x2048 32) (hx : ∀ i, (x i).toNat < 1000) (emb : FVec Ideal S1000x4096 .f32) (b : Fin 32) (l : Fin 2048)
    (k : Fin 4096) : looked x emb (ix3 b l k) = emb (ix2 (row (x (ix2 b l))) k) := by
  have e : broadcastInDim S32x2048x4096 ![0, 1] bcast_S32x2048_S32x2048x4096_0_1 (inside x) (ix3 b l k) = 1#1 :=
    (broadcastInDim_apply _ _ _ _ (ix2 b l) fun a => by fin_cases a <;> rfl).trans (inside_eq x hx _)
  rw [looked, select_apply, e, select_one, gather_rows_apply _ _ _ _ _ (by rw [starts_apply x hx]; exact hx _), starts_apply x hx]

/-! ## The layers -/

/-- The number of positions, as the reference divides by it. -/
theorem ofBits_2048 : Ideal.ofBits .f32 0x45000000#32 = ((2048 : ℝ) : EReal) := by
  simp [Ideal.ofBits, Ideal.ieee, -EReal.coe_mul]; norm_num

/-- The average is the mean. -/
theorem averaged_apply (x : IVec S32x2048 32) (hx : ∀ i, (x i).toNat < 1000) (emb : FVec Ideal S1000x4096 .f32) (b : Fin 32) (k : Fin 4096) :
    averaged x emb (ix2 b k) = mean x emb b k := by
  have h0 : (2048 : ℝ) ≠ 0 := by norm_num
  rw [averaged, hostDivf_apply, hostReduceAdd_apply, broadcastInDim_scalar_apply, constant_apply, constant_apply, ofBits_2048,
    Ideal.div_coe h0, Ideal.ofBits_zero_f32, Ideal.hostReduceAdd_r3_a1, zero_add, mean]
  refine congrArg (· * ((1 / 2048 : ℝ) : EReal)) (Finset.sum_congr rfl fun l _ => ?_)
  refine Eq.trans (congrArg (looked x emb) (funext fun a => Fin.ext ?_)) (looked_apply x hx emb b l k)
  match a with
  | ⟨0, _⟩ => rfl
  | ⟨1, _⟩ => rfl
  | ⟨2, _⟩ => rfl

/-- The hidden layer's units are the hidden units. -/
theorem layer_apply (p : FVec Ideal S32x4096 .f32) (w1 : FVec Ideal S4096x8192 .f32) (b1 : FVec Ideal S8192 .f32) (b : Fin 32) (h : Fin 8192) :
    layer p w1 b1 (ix2 b h) = hidden (fun k => p (ix2 b k)) w1 b1 h := by
  rw [layer, hidden, maximumf_apply, addf_apply, broadcastInDim_scalar_apply, constant_apply, Ideal.ofBits_zero_f32,
    broadcastInDim_apply _ _ _ (ix2 b h) (ix2 0 h) (fun a => by fin_cases a <;> rfl),
    broadcastInDim_apply _ _ _ (ix2 0 h) (ix1 h) (fun a => by fin_cases a <;> rfl)]
  exact congrArg (fun r => max (r + b1 (ix1 h)) 0) (StackMember.dotGeneral_plain_apply none p w1 b h)

/-- The reference's result is the answer. -/
theorem reference_answer (x : IVec S32x2048 32) (hx : ∀ i, (x i).toNat < 1000) (emb : FVec Ideal S1000x4096 .f32)
    (w1 : FVec Ideal S4096x8192 .f32) (b1 : FVec Ideal S8192 .f32) (w2 : FVec Ideal S8192x2 .f32) (b2 : FVec Ideal S2 .f32) :
    lastLayer (layer (averaged x emb) w1 b1) w2 b2 = fun j => answer x emb w1 b1 w2 b2 (j 0) (j 1) := by
  funext j
  obtain ⟨b, c, rfl⟩ : ∃ (b : Fin 32) (c : Fin 2), j = ix2 b c := ⟨j 0, j 1, eq_ix2 j⟩
  show _ = answer x emb w1 b1 w2 b2 b c
  rw [lastLayer, answer, addf_apply, broadcastInDim_apply _ _ _ (ix2 b c) (ix2 0 c) (fun a => by fin_cases a <;> rfl),
    broadcastInDim_apply _ _ _ (ix2 0 c) (ix1 c) (fun a => by fin_cases a <;> rfl)]
  refine congrArg (· + b2 (ix1 c)) ((StackMember.dotGeneral_plain_apply none _ w2 b c).trans (Finset.sum_congr rfl fun h _ => ?_))
  rw [layer_apply]
  exact congrArg (fun p => hidden p w1 b1 h * w2 (ix2 h c)) (funext fun k => averaged_apply x hx emb b k)

end Cert.Proof.Pooled

end
-- ==== Proof.lean ====
/-
  The certificate's claims, put together: what the kernel, the idealized kernel and the reference leave as it was, and
  that over the extended reals the kernel and the reference compute one value.
-/
module

public import proofs.«01_k».proof.Defs
public import proofs.«01_k».proof.Proof.Frames
public import proofs.«01_k».proof.Proof.Ref

@[expose] public section

noncomputable section

namespace Cert.Proof

open Idealize.ShloMosaic Idealize.SL.Sem

/-- Over the extended reals, at indices in range, the kernel's result is the reference's: both are the answer. -/
theorem value : Cert.algebraic_KernelIdeal_ReferenceIdeal := by
  intro m g m' g' hpre hargs
  have hin : Pooled.InRange m := fun d i => Pooled.lt_of_pre _ _ _ _ _ _ (hpre d) i
  refine ⟨fun d => Pooled.resultAt m d,
    (θ_run Cert.KernelIdeal.defs _ _).mono (fun _ h => h.1) (Pooled.run_main (F := Ideal) m g hin),
    (θ_run Cert.ReferenceIdeal.defs _ _).mono (fun r h d => ⟨(h d).1.trans ?_, (h d).2⟩) (Cert.ReferenceIdeal.Value.run (F := Ideal) m' g')⟩
  obtain ⟨h0, h1, h2, h3, h4, h5⟩ := hargs d
  rw [h0, h1, h2, h3, h4, h5]
  exact (Pooled.reference_answer _ (hin d) _ _ _ _ _).trans (Pooled.result_answer _ (hin d) _ _ _ _ _).symm

/-- Every claim of the certificate. -/
theorem claim : Cert.Claim :=
  ⟨Cert.Kernel.Gen.facts, Cert.KernelIdeal.Gen.facts, Cert.ReferenceIdeal.Gen.facts, Cert.Pre_indices_in_range.Gen.facts,
    Pooled.frame_kernel, Pooled.frame_ideal, Pooled.frame_reference, Pooled.frame_reference_pre, trivial, value⟩

end Cert.Proof

end
